-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_v5_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x640x6x256 : Shape := ⟨4, ![3, 640, 6, 256]⟩
abbrev S3x640x6x512 : Shape := ⟨4, ![3, 640, 6, 512]⟩
abbrev S3x640x6 : Shape := ⟨3, ![3, 640, 6]⟩
abbrev S3x6x256x512 : Shape := ⟨4, ![3, 6, 256, 512]⟩
abbrev S3x6x512 : Shape := ⟨3, ![3, 6, 512]⟩
abbrev S_ : Shape := ⟨0, ![]⟩

class Facts : Prop where
  bcast_S_S3x640x6x256 : S_.BroadcastsInDim S3x640x6x256 (![] : Fin 0 → Fin S3x640x6x256.rank)
  reducesTo_S3x640x6x256_S_d0_1_2_3 : S3x640x6x256.ReducesTo [0, 1, 2, 3] S_
  h_S_ : 0 < S_.numel
  bcast_S_S3x640x6x512 : S_.BroadcastsInDim S3x640x6x512 (![] : Fin 0 → Fin S3x640x6x512.rank)
  reducesTo_S3x640x6x512_S_d0_1_2_3 : S3x640x6x512.ReducesTo [0, 1, 2, 3] S_
  bcast_S_S3x640x6 : S_.BroadcastsInDim S3x640x6 (![] : Fin 0 → Fin S3x640x6.rank)
  reducesTo_S3x640x6_S_d0_1_2 : S3x640x6.ReducesTo [0, 1, 2] S_
  bcast_S_S3x6x512 : S_.BroadcastsInDim S3x6x512 (![] : Fin 0 → Fin S3x6x512.rank)
  reducesTo_S3x6x512_S_d0_1_2 : S3x6x512.ReducesTo [0, 1, 2] S_

variable [Facts]

def fn_part1 {F : FTy → Type} [FloatOps F] (main_arg4 : FVec F S3x640x6 .f32) (main_arg6 : FVec F S3x6x512 .f32) (main_v13 : IVec S_ 1) (main_v16 : IVec S3x640x6 1) : IVec S_ 1 :=
  let main_c_5 : IVec S_ 1 := constantI S_ 1 1#1
  let main_v17 : IVec S_ 1 := (fun x v => Host.reduce IntOp.andi x v reducesTo_S3x640x6_S_d0_1_2 h_S_) main_v16 main_c_5
  let main_v18 : IVec S_ 1 := andi main_v13 main_v17
  let main_v19 : FVec F S3x640x6 .f32 := Host.absf main_arg4
  let main_cst_6 : FVec F S_ .f32 := constant S_ .f32 0x7F800000#32
  let main_v20 : FVec F S3x640x6 .f32 := broadcastInDim S3x640x6 ![] bcast_S_S3x640x6 main_cst_6
  let main_v21 : IVec S3x640x6 1 := cmpf .olt main_v19 main_v20
  let main_c_7 : IVec S_ 1 := constantI S_ 1 1#1
  let main_v22 : IVec S_ 1 := (fun x v => Host.reduce IntOp.andi x v reducesTo_S3x640x6_S_d0_1_2 h_S_) main_v21 main_c_7
  let main_v23 : IVec S_ 1 := andi main_v18 main_v22
  let main_v24 : FVec F S3x6x512 .f32 := Host.absf main_arg6
  let main_cst_8 : FVec F S_ .f32 := constant S_ .f32 0x7F800000#32
  let main_v25 : FVec F S3x6x512 .f32 := broadcastInDim S3x6x512 ![] bcast_S_S3x6x512 main_cst_8
  let main_v26 : IVec S3x6x512 1 := cmpf .olt main_v24 main_v25
  let main_c_9 : IVec S_ 1 := constantI S_ 1 1#1
  let main_v27 : IVec S_ 1 := (fun x v => Host.reduce IntOp.andi x v reducesTo_S3x6x512_S_d0_1_2 h_S_) main_v26 main_c_9
  let main_v28 : IVec S_ 1 := andi main_v23 main_v27
  main_v28

def fn {F : FTy → Type} [FloatOps F] (main_arg0 : FVec F S3x640x6x256 .bf16) (main_arg1 : FVec F S3x640x6x256 .bf16) (main_arg2 : FVec F S3x640x6x512 .bf16) (main_arg3 : FVec F S3x640x6 .f32) (main_arg4 : FVec F S3x640x6 .f32) (main_arg5 : FVec F S3x6x256x512 .fp8e4m3) (main_arg6 : FVec F S3x6x512 .f32) : IVec S_ 1 :=
  let main_v0 : FVec F S3x640x6x256 .bf16 := Host.absf main_arg0
  let main_cst : FVec F S_ .bf16 := constant S_ .bf16 0x7F80#16
  let main_v1 : FVec F S3x640x6x256 .bf16 := broadcastInDim S3x640x6x256 ![] bcast_S_S3x640x6x256 main_cst
  let main_v2 : IVec S3x640x6x256 1 := cmpf .olt main_v0 main_v1
  let main_c : IVec S_ 1 := constantI S_ 1 1#1
  let main_v3 : IVec S_ 1 := (fun x v => Host.reduce IntOp.andi x v reducesTo_S3x640x6x256_S_d0_1_2_3 h_S_) main_v2 main_c
  let main_v4 : FVec F S3x640x6x256 .bf16 := Host.absf main_arg1
  let main_cst_0 : FVec F S_ .bf16 := constant S_ .bf16 0x7F80#16
  let main_v5 : FVec F S3x640x6x256 .bf16 := broadcastInDim S3x640x6x256 ![] bcast_S_S3x640x6x256 main_cst_0
  let main_v6 : IVec S3x640x6x256 1 := cmpf .olt main_v4 main_v5
  let main_c_1 : IVec S_ 1 := constantI S_ 1 1#1
  let main_v7 : IVec S_ 1 := (fun x v => Host.reduce IntOp.andi x v reducesTo_S3x640x6x256_S_d0_1_2_3 h_S_) main_v6 main_c_1
  let main_v8 : IVec S_ 1 := andi main_v3 main_v7
  let main_v9 : FVec F S3x640x6x512 .bf16 := Host.absf main_arg2
  let main_cst_2 : FVec F S_ .bf16 := constant S_ .bf16 0x7F80#16
  let main_v10 : FVec F S3x640x6x512 .bf16 := broadcastInDim S3x640x6x512 ![] bcast_S_S3x640x6x512 main_cst_2
  let main_v11 : IVec S3x640x6x512 1 := cmpf .olt main_v9 main_v10
  let main_c_3 : IVec S_ 1 := constantI S_ 1 1#1
  let main_v12 : IVec S_ 1 := (fun x v => Host.reduce IntOp.andi x v reducesTo_S3x640x6x512_S_d0_1_2_3 h_S_) main_v11 main_c_3
  let main_v13 : IVec S_ 1 := andi main_v8 main_v12
  let main_v14 : FVec F S3x640x6 .f32 := Host.absf main_arg3
  let main_cst_4 : FVec F S_ .f32 := constant S_ .f32 0x7F800000#32
  let main_v15 : FVec F S3x640x6 .f32 := broadcastInDim S3x640x6 ![] bcast_S_S3x640x6 main_cst_4
  let main_v16 : IVec S3x640x6 1 := cmpf .olt main_v14 main_v15
  fn_part1 (F := F) main_arg4 main_arg6 main_v13 main_v16
-- ==== Kernel.lean ====
abbrev S3x640x6x256 : Shape := ⟨4, ![3, 640, 6, 256]⟩
abbrev S3x640x6x512 : Shape := ⟨4, ![3, 640, 6, 512]⟩
abbrev S3x640x6 : Shape := ⟨3, ![3, 640, 6]⟩
abbrev S3x6x256x512 : Shape := ⟨4, ![3, 6, 256, 512]⟩
abbrev S3x6x512 : Shape := ⟨3, ![3, 6, 512]⟩
abbrev S3x6x640x256 : Shape := ⟨4, ![3, 6, 640, 256]⟩
abbrev S3x6x640x512 : Shape := ⟨4, ![3, 6, 640, 512]⟩
abbrev S3x6x640 : Shape := ⟨3, ![3, 6, 640]⟩
abbrev S3x6x10 : Shape := ⟨3, ![3, 6, 10]⟩
abbrev S1x6x64x256 : Shape := ⟨4, ![1, 6, 64, 256]⟩
abbrev S1x6x64x512 : Shape := ⟨4, ![1, 6, 64, 512]⟩
abbrev S1x6x640 : Shape := ⟨3, ![1, 6, 640]⟩
abbrev S1x6x256x512 : Shape := ⟨4, ![1, 6, 256, 512]⟩
abbrev S1x6x512 : Shape := ⟨3, ![1, 6, 512]⟩
abbrev S1x6x10 : Shape := ⟨3, ![1, 6, 10]⟩
abbrev S6x256x512 : Shape := ⟨3, ![6, 256, 512]⟩
abbrev S1x1x256x512 : Shape := ⟨4, ![1, 1, 256, 512]⟩
abbrev S256x512 : Shape := ⟨2, ![256, 512]⟩
abbrev S1x1x512 : Shape := ⟨3, ![1, 1, 512]⟩
abbrev S1x512 : Shape := ⟨2, ![1, 512]⟩
abbrev S1x256x512 : Shape := ⟨3, ![1, 256, 512]⟩
abbrev S64x128 : Shape := ⟨2, ![64, 128]⟩
abbrev S128x128 : Shape := ⟨2, ![128, 128]⟩
abbrev S1x6x128 : Shape := ⟨3, ![1, 6, 128]⟩
abbrev S6x128 : Shape := ⟨2, ![6, 128]⟩
abbrev S2x128 : Shape := ⟨2, ![2, 128]⟩
abbrev S8x128 : Shape := ⟨2, ![8, 128]⟩
abbrev S128x8 : Shape := ⟨2, ![128, 8]⟩
abbrev S6x1 : Shape := ⟨2, ![6, 1]⟩
abbrev S1x1x64x256 : Shape := ⟨4, ![1, 1, 64, 256]⟩
abbrev S64x256 : Shape := ⟨2, ![64, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x10 : Shape := ⟨2, ![1, 10]⟩
abbrev S1x1x10 : Shape := ⟨3, ![1, 1, 10]⟩
abbrev S64 : Shape := ⟨1, ![64]⟩
abbrev S64x1 : Shape := ⟨2, ![64, 1]⟩
abbrev S128x256 : Shape := ⟨2, ![128, 256]⟩
abbrev S1x128 : Shape := ⟨2, ![1, 128]⟩
abbrev S128 : Shape := ⟨1, ![128]⟩
abbrev S32x128 : Shape := ⟨2, ![32, 128]⟩
abbrev S8x128x1 : Shape := ⟨3, ![8, 128, 1]⟩
abbrev S192x128 : Shape := ⟨2, ![192, 128]⟩
abbrev S128x192 : Shape := ⟨2, ![128, 192]⟩
abbrev S32x192 : Shape := ⟨2, ![32, 192]⟩
abbrev S384x128 : Shape := ⟨2, ![384, 128]⟩
abbrev S128x384 : Shape := ⟨2, ![128, 384]⟩
abbrev S192x256 : Shape := ⟨2, ![192, 256]⟩
abbrev S256x192 : Shape := ⟨2, ![256, 192]⟩
abbrev S128x512 : Shape := ⟨2, ![128, 512]⟩
abbrev S1x1x64x512 : Shape := ⟨4, ![1, 1, 64, 512]⟩
abbrev S64x512 : Shape := ⟨2, ![64, 512]⟩
abbrev S384x512 : Shape := ⟨2, ![384, 512]⟩
abbrev S192x512 : Shape := ⟨2, ![192, 512]⟩
abbrev S512 : Shape := ⟨1, ![512]⟩

abbrev nBuf : Space → Nat
  | .hbm => 19
  | .vmem => 29
  | .smem => 0
  | _ => 0

abbrev bufTy : (tb : Table) → Fin (tcTables nBuf tb) → BufTy
  | .hbm, ⟨0, _⟩ => ⟨S3x640x6x256, .bf16⟩
  | .hbm, ⟨1, _⟩ => ⟨S3x640x6x256, .bf16⟩
  | .hbm, ⟨2, _⟩ => ⟨S3x640x6x512, .bf16⟩
  | .hbm, ⟨3, _⟩ => ⟨S3x640x6, .f32⟩
  | .hbm, ⟨4, _⟩ => ⟨S3x640x6, .f32⟩
  | .hbm, ⟨5, _⟩ => ⟨S3x6x256x512, .fp8e4m3⟩
  | .hbm, ⟨6, _⟩ => ⟨S3x6x512, .f32⟩
  | .hbm, ⟨7, _⟩ => ⟨S3x6x640x256, .bf16⟩
  | .hbm, ⟨8, _⟩ => ⟨S3x6x640x256, .bf16⟩
  | .hbm, ⟨9, _⟩ => ⟨S3x6x640x512, .bf16⟩
  | .hbm, ⟨10, _⟩ => ⟨S3x6x640, .f32⟩
  | .hbm, ⟨11, _⟩ => ⟨S3x6x640, .f32⟩
  | .hbm, ⟨12, _⟩ => ⟨S3x6x640x512, .bf16⟩
  | .hbm, ⟨13, _⟩ => ⟨S3x6x256x512, .fp8e4m3⟩
  | .hbm, ⟨14, _⟩ => ⟨S3x6x512, .f32⟩
  | .hbm, ⟨15, _⟩ => ⟨S3x6x640x256, .fp8e4m3⟩
  | .hbm, ⟨16, _⟩ => ⟨S3x6x10, .f32⟩
  | .hbm, ⟨17, _⟩ => ⟨S3x6x640x256, .fp8e4m3⟩
  | .hbm, ⟨18, _⟩ => ⟨S3x6x10, .f32⟩
  | .local _ .vmem, ⟨0, _⟩ => ⟨S1x6x64x256, .bf16⟩
  | .local _ .vmem, ⟨1, _⟩ => ⟨S1x6x64x256, .bf16⟩
  | .local _ .vmem, ⟨2, _⟩ => ⟨S1x6x64x256, .bf16⟩
  | .local _ .vmem, ⟨3, _⟩ => ⟨S1x6x64x256, .bf16⟩
  | .local _ .vmem, ⟨4, _⟩ => ⟨S1x6x64x512, .bf16⟩
  | .local _ .vmem, ⟨5, _⟩ => ⟨S1x6x64x512, .bf16⟩
  | .local _ .vmem, ⟨6, _⟩ => ⟨S1x6x640, .f32⟩
  | .local _ .vmem, ⟨7, _⟩ => ⟨S1x6x640, .f32⟩
  | .local _ .vmem, ⟨8, _⟩ => ⟨S1x6x640, .f32⟩
  | .local _ .vmem, ⟨9, _⟩ => ⟨S1x6x640, .f32⟩
  | .local _ .vmem, ⟨10, _⟩ => ⟨S1x6x256x512, .fp8e4m3⟩
  | .local _ .vmem, ⟨11, _⟩ => ⟨S1x6x256x512, .fp8e4m3⟩
  | .local _ .vmem, ⟨12, _⟩ => ⟨S1x6x512, .f32⟩
  | .local _ .vmem, ⟨13, _⟩ => ⟨S1x6x512, .f32⟩
  | .local _ .vmem, ⟨14, _⟩ => ⟨S1x6x64x512, .bf16⟩
  | .local _ .vmem, ⟨15, _⟩ => ⟨S1x6x64x512, .bf16⟩
  | .local _ .vmem, ⟨16, _⟩ => ⟨S1x6x256x512, .fp8e4m3⟩
  | .local _ .vmem, ⟨17, _⟩ => ⟨S1x6x256x512, .fp8e4m3⟩
  | .local _ .vmem, ⟨18, _⟩ => ⟨S1x6x512, .f32⟩
  | .local _ .vmem, ⟨19, _⟩ => ⟨S1x6x512, .f32⟩
  | .local _ .vmem, ⟨20, _⟩ => ⟨S1x6x64x256, .fp8e4m3⟩
  | .local _ .vmem, ⟨21, _⟩ => ⟨S1x6x64x256, .fp8e4m3⟩
  | .local _ .vmem, ⟨22, _⟩ => ⟨S1x6x10, .f32⟩
  | .local _ .vmem, ⟨23, _⟩ => ⟨S1x6x10, .f32⟩
  | .local _ .vmem, ⟨24, _⟩ => ⟨S1x6x64x256, .fp8e4m3⟩
  | .local _ .vmem, ⟨25, _⟩ => ⟨S1x6x64x256, .fp8e4m3⟩
  | .local _ .vmem, ⟨26, _⟩ => ⟨S1x6x10, .f32⟩
  | .local _ .vmem, ⟨27, _⟩ => ⟨S1x6x10, .f32⟩
  | .local _ .vmem, ⟨28, _⟩ => ⟨S6x256x512, .f32⟩
  | _, _ => ⟨S3x640x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![3, 10], ![false, false]⟩

def k0_mult1 (i : grid0.Coords) : BitVec 32 :=
  let arg1 : BitVec 32 := BitVec.ofNat 32 (i 1).val
  let c0_i32_1 : BitVec 32 := 0#32
  let v6 : BitVec 1 := Scalar.cmpi .sgt arg1 c0_i32_1
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let c128_i32 : BitVec 32 := 128#32
  let v22 : BitVec 32 := Scalar.muli v21 c128_i32
  v22
def k0_off1 (i : grid0.Coords) : Fin 3 → Nat :=
  let c0 : Index := 0#32
  let c0_9 : Index := 0#32
  let arg1 : BitVec 32 := BitVec.ofNat 32 (i 1).val
  let c0_i32_1 : BitVec 32 := 0#32
  let v6 : BitVec 1 := Scalar.cmpi .sgt arg1 c0_i32_1
  let v7 : BitVec 32 := Scalar.extui v6
  let c0_i32_2 : BitVec 32 := 0#32
  let v8 : BitVec 1 := Scalar.cmpi .slt arg1 c0_i32_2
  let v9 : BitVec 32 := Scalar.extui v8
  let v10 : BitVec 32 := Scalar.subi v7 v9
  let c2_i32 : BitVec 32 := 2#32
  let c0_i32_3 : BitVec 32 := 0#32
  let v11 : BitVec 1 := Scalar.cmpi .sgt c2_i32 c0_i32_3
  let v12 : BitVec 32 := Scalar.extui v11
  let c0_i32_4 : BitVec 32 := 0#32
  let v13 : BitVec 1 := Scalar.cmpi .slt c2_i32 c0_i32_4
  let v14 : BitVec 32 := Scalar.extui v13
  let v15 : BitVec 32 := Scalar.subi v12 v14
  let v16 : BitVec 1 := Scalar.cmpi .ne v10 v15
  let v17 : BitVec 32 := Scalar.remsi arg1 c2_i32
  let c0_i32_5 : BitVec 32 := 0#32
  let v18 : BitVec 1 := Scalar.cmpi .ne v17 c0_i32_5
  let v19 : BitVec 1 := Scalar.andi v16 v18
  let v5 : BitVec 32 := Scalar.divsi arg1 c2_i32
  let c1_i32 : BitVec 32 := 1#32
  let v20 : BitVec 32 := Scalar.subi v5 c1_i32
  let v21 : BitVec 32 := Scalar.select v19 v20 v5
  let c128_i32 : BitVec 32 := 128#32
  let v22 : BitVec 32 := Scalar.muli v21 c128_i32
  let v23 : BitVec 32 := v22
  let v37 : Index := Scalar.indexCast v23
  ![0, 0, v37.toNat]
def k0_cond2 (i : grid0.Coords) : BitVec 1 :=
  let arg1 : BitVec 32 := BitVec.ofNat 32 (i 1).val
  let c9_i32_1638 : BitVec 32 := 9#32
  let v6080 : BitVec 1 := Scalar.cmpi .eq arg1 c9_i32_1638
  let v6081 : BitVec 32 := Scalar.extui v6080
  let c0_i32_1639 : BitVec 32 := 0#32
  let v6082 : BitVec 1 := Scalar.cmpi .ne v6081 c0_i32_1639
  v6082

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x6x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x6x256x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x6x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x6x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x256x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x6x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x6x64x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x6x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x6x64x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x6x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S3x640x6x256 : Shape := ⟨4, ![3, 640, 6, 256]⟩
abbrev S3x640x6x512 : Shape := ⟨4, ![3, 640, 6, 512]⟩
abbrev S3x640x6 : Shape := ⟨3, ![3, 640, 6]⟩
abbrev S3x6x256x512 : Shape := ⟨4, ![3, 6, 256, 512]⟩
abbrev S3x6x512 : Shape := ⟨3, ![3, 6, 512]⟩
abbrev S3x6x640x256 : Shape := ⟨4, ![3, 6, 640, 256]⟩
abbrev S3x6x640x512 : Shape := ⟨4, ![3, 6, 640, 512]⟩
abbrev S3x6x640 : Shape := ⟨3, ![3, 6, 640]⟩
abbrev S3x6x10 : Shape := ⟨3, ![3, 6, 10]⟩
abbrev S180x64x256 : Shape := ⟨3, ![180, 64, 256]⟩
abbrev S180x64x512 : Shape := ⟨3, ![180, 64, 512]⟩
abbrev S180x1x64 : Shape := ⟨3, ![180, 1, 64]⟩
abbrev S180x64x1 : Shape := ⟨3, ![180, 64, 1]⟩
abbrev S180 : Shape := ⟨1, ![180]⟩
abbrev S180x1x1 : Shape := ⟨3, ![180, 1, 1]⟩
abbrev S180x64 : Shape := ⟨2, ![180, 64]⟩
abbrev S180x64x64 : Shape := ⟨3, ![180, 64, 64]⟩
abbrev S3x6x1x512 : Shape := ⟨4, ![3, 6, 1, 512]⟩
abbrev S18x256x512 : Shape := ⟨3, ![18, 256, 512]⟩
abbrev S18x10x64x512 : Shape := ⟨4, ![18, 10, 64, 512]⟩
abbrev S18x1x64x512 : Shape := ⟨4, ![18, 1, 64, 512]⟩
abbrev S18x64x512 : Shape := ⟨3, ![18, 64, 512]⟩
abbrev S18x10x64x256 : Shape := ⟨4, ![18, 10, 64, 256]⟩
abbrev S18x1x64x256 : Shape := ⟨4, ![18, 1, 64, 256]⟩
abbrev S18x64x256 : Shape := ⟨3, ![18, 64, 256]⟩
abbrev S18x10x64x64 : Shape := ⟨4, ![18, 10, 64, 64]⟩
abbrev S18x1x64x64 : Shape := ⟨4, ![18, 1, 64, 64]⟩
abbrev S18x64x64 : Shape := ⟨3, ![18, 64, 64]⟩
abbrev S3x6x64x512 : Shape := ⟨4, ![3, 6, 64, 512]⟩
abbrev S18x10x1x1 : Shape := ⟨4, ![18, 10, 1, 1]⟩
abbrev S18x1x1x1 : Shape := ⟨4, ![18, 1, 1, 1]⟩
abbrev S18x1x1 : Shape := ⟨3, ![18, 1, 1]⟩
abbrev S18x512 : Shape := ⟨2, ![18, 512]⟩
abbrev S18x1x512 : Shape := ⟨3, ![18, 1, 512]⟩

abbrev nBuf : Space → Nat
  | .hbm => 19
  | .vmem => 14
  | .smem => 0
  | _ => 0

abbrev bufTy : (tb : Table) → Fin (tcTables nBuf tb) → BufTy
  | .hbm, ⟨0, _⟩ => ⟨S3x640x6x256, .bf16⟩
  | .hbm, ⟨1, _⟩ => ⟨S3x640x6x256, .bf16⟩
  | .hbm, ⟨2, _⟩ => ⟨S3x640x6x512, .bf16⟩
  | .hbm, ⟨3, _⟩ => ⟨S3x640x6, .f32⟩
  | .hbm, ⟨4, _⟩ => ⟨S3x640x6, .f32⟩
  | .hbm, ⟨5, _⟩ => ⟨S3x6x256x512, .fp8e4m3⟩
  | .hbm, ⟨6, _⟩ => ⟨S3x6x512, .f32⟩
  | .hbm, ⟨7, _⟩ => ⟨S3x6x640x256, .bf16⟩
  | .hbm, ⟨8, _⟩ => ⟨S3x6x640x256, .bf16⟩
  | .hbm, ⟨9, _⟩ => ⟨S3x6x640x512, .bf16⟩
  | .hbm, ⟨10, _⟩ => ⟨S3x6x640, .f32⟩
  | .hbm, ⟨11, _⟩ => ⟨S3x6x640, .f32⟩
  | .hbm, ⟨12, _⟩ => ⟨S3x6x640x512, .bf16⟩
  | .hbm, ⟨13, _⟩ => ⟨S3x6x256x512, .fp8e4m3⟩
  | .hbm, ⟨14, _⟩ => ⟨S3x6x512, .f32⟩
  | .hbm, ⟨15, _⟩ => ⟨S3x6x640x256, .fp8e4m3⟩
  | .hbm, ⟨16, _⟩ => ⟨S3x6x10, .f32⟩
  | .hbm, ⟨17, _⟩ => ⟨S3x6x640x256, .fp8e4m3⟩
  | .hbm, ⟨18, _⟩ => ⟨S3x6x10, .f32⟩
  | .local _ .vmem, ⟨0, _⟩ => ⟨S3x6x640x256, .bf16⟩
  | .local _ .vmem, ⟨1, _⟩ => ⟨S3x6x640x256, .bf16⟩
  | .local _ .vmem, ⟨2, _⟩ => ⟨S3x6x640x512, .bf16⟩
  | .local _ .vmem, ⟨3, _⟩ => ⟨S3x6x640, .f32⟩
  | .local _ .vmem, ⟨4, _⟩ => ⟨S3x6x640, .f32⟩
  | .local _ .vmem, ⟨5, _⟩ => ⟨S3x6x256x512, .fp8e4m3⟩
  | .local _ .vmem, ⟨6, _⟩ => ⟨S3x6x512, .f32⟩
  | .local _ .vmem, ⟨7, _⟩ => ⟨S3x6x640x512, .bf16⟩
  | .local _ .vmem, ⟨8, _⟩ => ⟨S3x6x256x512, .fp8e4m3⟩
  | .local _ .vmem, ⟨9, _⟩ => ⟨S3x6x512, .f32⟩
  | .local _ .vmem, ⟨10, _⟩ => ⟨S3x6x640x256, .fp8e4m3⟩
  | .local _ .vmem, ⟨11, _⟩ => ⟨S3x6x10, .f32⟩
  | .local _ .vmem, ⟨12, _⟩ => ⟨S3x6x640x256, .fp8e4m3⟩
  | .local _ .vmem, ⟨13, _⟩ => ⟨S3x6x10, .f32⟩
  | _, _ => ⟨S3x640x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "log_2" => some ((Real.log 2 : ℝ) : EReal)
  | _ => none

abbrev grid0 : Pipeline.Grid := .none

abbrev stage0_0 : Fin 1 → Memref sig .tc .vmem S3x6x640x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x6x640x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x6x640x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x6x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x6x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x6x256x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x6x640x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x6x256x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x6x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x6x640x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x6x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x6x640x256 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x6x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Body.lean ====
/- The kernel's body in one copy: what one (batch, head) unit of one chunk computes, as a function of what it
   loads, written over any reading of the floats with the very operations the program prints. The six units
   of the program are instances of it, so everything below is proved of this one copy. -/
module

public import proofs.«01_k».proof.Proof.Gen.KernelIdeal.Skeleton
public import Idealize.ShloMosaic.Lib.Tactic

@[expose] public section

set_option maxRecDepth 16384

noncomputable section

namespace Cert.Body

open Idealize.ShloMosaic Cert.KernelIdeal

variable {F : FTy → Type} [FloatOps F] [Named F]

/-- The constant vector of one f32 literal. -/
def cst (s : Shape) (b : BitVec 32) : FVec F s .f32 := broadcast s (Scalar.ofBits .f32 b)

/-! ## The power-of-two quantiser -/

/-- One rung's comparison: `t` against the running scale times the rung's power of two. -/
def up {s : Shape} (t x : FVec F s .f32) (h : BitVec 32) : IVec s 1 := cmpf .oge t (mulf x (cst s h))

/-- One rung: multiply by the two factors where the comparison holds. -/
def rung {s : Shape} (c : IVec s 1) (f g : BitVec 32) (x : FVec F s .f32) : FVec F s .f32 :=
  select c (mulf (mulf x (cst s f)) (cst s g)) x

def sc0 (s : Shape) : FVec F s .f32 := cst s 0x00800000#32
def sc1 {s : Shape} (t : FVec F s .f32) : FVec F s .f32 :=
  rung (up t (sc0 s) 0x7F000000#32) 0x5F800000#32 0x5F800000#32 (sc0 s)
def sc2 {s : Shape} (t : FVec F s .f32) : FVec F s .f32 :=
  rung (up t (sc1 t) 0x5F000000#32) 0x4F800000#32 0x4F800000#32 (sc1 t)
def sc3 {s : Shape} (t : FVec F s .f32) : FVec F s .f32 :=
  rung (up t (sc2 t) 0x4F000000#32) 0x47800000#32 0x47800000#32 (sc2 t)
def sc4 {s : Shape} (t : FVec F s .f32) : FVec F s .f32 :=
  rung (up t (sc3 t) 0x47000000#32) 0x43800000#32 0x43800000#32 (sc3 t)
def sc5 {s : Shape} (t : FVec F s .f32) : FVec F s .f32 :=
  rung (up t (sc4 t) 0x43000000#32) 0x41800000#32 0x41800000#32 (sc4 t)
def sc6 {s : Shape} (t : FVec F s .f32) : FVec F s .f32 :=
  rung (up t (sc5 t) 0x41000000#32) 0x40800000#32 0x40800000#32 (sc5 t)
def sc7 {s : Shape} (t : FVec F s .f32) : FVec F s .f32 :=
  rung (up t (sc6 t) 0x40000000#32) 0x40000000#32 0x40000000#32 (sc6 t)
def sc8 {s : Shape} (t : FVec F s .f32) : FVec F s .f32 :=
  rung (up t (sc7 t) 0x3F800000#32) 0x3F800000#32 0x40000000#32 (sc7 t)

def iv0 (s : Shape) : FVec F s .f32 := cst s 0x7E800000#32
def iv1 {s : Shape} (t : FVec F s .f32) : FVec F s .f32 :=
  rung (up t (sc0 s) 0x7F000000#32) 0x1F800000#32 0x1F800000#32 (iv0 s)
def iv2 {s : Shape} (t : FVec F s .f32) : FVec F s .f32 :=
  rung (up t (sc1 t) 0x5F000000#32) 0x2F800000#32 0x2F800000#32 (iv1 t)
def iv3 {s : Shape} (t : FVec F s .f32) : FVec F s .f32 :=
  rung (up t (sc2 t) 0x4F000000#32) 0x37800000#32 0x37800000#32 (iv2 t)
def iv4 {s : Shape} (t : FVec F s .f32) : FVec F s .f32 :=
  rung (up t (sc3 t) 0x47000000#32) 0x3B800000#32 0x3B800000#32 (iv3 t)
def iv5 {s : Shape} (t : FVec F s .f32) : FVec F s .f32 :=
  rung (up t (sc4 t) 0x43000000#32) 0x3D800000#32 0x3D800000#32 (iv4 t)
def iv6 {s : Shape} (t : FVec F s .f32) : FVec F s .f32 :=
  rung (up t (sc5 t) 0x41000000#32) 0x3E800000#32 0x3E800000#32 (iv5 t)
def iv7 {s : Shape} (t : FVec F s .f32) : FVec F s .f32 :=
  rung (up t (sc6 t) 0x40000000#32) 0x3F000000#32 0x3F000000#32 (iv6 t)
def iv8 {s : Shape} (t : FVec F s .f32) : FVec F s .f32 :=
  rung (up t (sc7 t) 0x3F800000#32) 0x3F800000#32 0x3F000000#32 (iv7 t)

/-- The scale the ladder ends with (1 where `t` is zero). -/
def scale {s : Shape} (t : FVec F s .f32) : FVec F s .f32 :=
  select (cmpf .oeq t (cst s 0x00000000#32)) (cst s 0x3F800000#32) (sc8 t)
/-- Its reciprocal, as the ladder tracks it. -/
def inv {s : Shape} (t : FVec F s .f32) : FVec F s .f32 :=
  select (cmpf .oeq t (cst s 0x00000000#32)) (cst s 0x3F800000#32) (iv8 t)

/-- The absolute maximum of a key or query block over 448. -/
def amax (x : FVec F S64x256 .bf16) : FVec F S1x1 .f32 :=
  mulf (shapeCast S1x1 (multiReduction .maximumf [1] S1
    (extf .f32 (shapeCast S1x256 (multiReduction .maximumf [0] S256 (absf x) 0xFF80#16
      (by decide) (.inr rfl) rfl) (by decide)) (by decide))
    0xFF800000#32 (by decide) (.inl rfl) rfl) (by decide)) (cst S1x1 0x3B124925#32)

/-- A key or query block's codes. -/
def codes (x : FVec F S64x256 .bf16) : FVec F S64x256 .fp8e4m3 :=
  truncf .fp8e4m3 (minimumf (broadcast S64x256 (Scalar.truncf .bf16 (by decide) (Scalar.ofBits .f32 0x43E00000#32)))
    (maximumf (broadcast S64x256 (Scalar.truncf .bf16 (by decide) (Scalar.ofBits .f32 0xC3E00000#32)))
      (mulf x (broadcastTo S64x256 (truncf .bf16 (inv (amax x)) (by decide)) (by decide))))) (by decide)

/-- The reciprocal row norms of a key or query block. -/
def norms (x : FVec F S64x256 .bf16) : FVec F S64x1 .f32 :=
  rsqrt (addf (shapeCast S64x1 (multiReduction .add [1] S64 (mulf (extf .f32 x (by decide)) (extf .f32 x (by decide)))
    0x00000000#32 (by decide) (.inl rfl) rfl) (by decide)) (cst S64x1 0x358637BD#32))

/-! ## The masks of a unit: `ao` the lane its first half starts at, `ae` where that half ends, `po` the other's start -/

def lane : IVec S64x128 32 := iota .tc S64x128 32 [1] (by decide)
def row : IVec S64x128 32 := iota .tc S64x128 32 [0] (by decide)

def inA (ao ae : BitVec 32) : IVec S64x128 1 :=
  andi (cmpi .sge lane (broadcast S64x128 ao)) (cmpi .slt lane (broadcast S64x128 ae))
def rowA (ao ae : BitVec 32) : IVec S1x128 1 := extractStridedSlice S1x128 ![0, 0] (inA ao ae) (by decide)
def eye (o : BitVec 32) : IVec S64x128 1 := cmpi .eq (subi lane (broadcast S64x128 o)) row
def keep (ao ae po : BitVec 32) : IVec S64x128 1 :=
  cmpi .sge (select (inA ao ae)
    (subi (subi row (broadcast S64x128 1#32)) (subi lane (broadcast S64x128 ao)))
    (subi (subi lane (broadcast S64x128 po)) row)) (broadcast S64x128 0#32)

/-- The row norms laid along the lanes, keys on one half and queries on the other. -/
def rRow (ao po : BitVec 32) (rk rq : FVec F S64x1 .f32) : FVec F S1x128 .f32 :=
  shapeCast S1x128 (multiReduction .add [0] S128
    (select (eye ao) (broadcastTo S64x128 (shapeCast S64x1 rk (by decide)) (by decide))
      (select (eye po) (broadcastTo S64x128 (shapeCast S64x1 rq (by decide)) (by decide)) (cst S64x128 0x00000000#32)))
    0x00000000#32 (by decide) (.inl rfl) rfl) (by decide)

def laneScale (ao ae po : BitVec 32) (sk sq : FVec F S1x1 .f32) (rk rq : FVec F S64x1 .f32) (bRow : FVec F S1x128 .f32) :
    FVec F S1x128 .f32 :=
  mulf (rRow ao po rk rq) (select (rowA ao ae) (mulf bRow (broadcastTo S1x128 (mulf sk sk) (by decide)))
    (broadcastTo S1x128 (shapeCast S1x1 (mulf (mulf sq sk) (cst S1x1 0x3D800000#32)) (by decide)) (by decide)))

def sgn (ao ae : BitVec 32) : FVec F S1x128 .f32 :=
  select (rowA ao ae) (cst S1x128 0x3F800000#32) (cst S1x128 0xBF800000#32)

/-- The masked exponentials of differences of cumulated gates. -/
def expo (ao ae po : BitVec 32) (gRow : FVec F S1x128 .f32) (gCol : FVec F S64x1 .f32) : FVec F S64x128 .f32 :=
  exp (select (keep ao ae po)
    (subf (mulf (broadcastTo S64x128 gCol (by decide)) (broadcastTo S64x128 (sgn ao ae) (by decide)))
      (broadcastTo S64x128 (mulf gRow (sgn ao ae)) (by decide)))
    (broadcast S64x128 (Named.named κ "mask" 0xF149F2CA#32)))

/-- The unit's stacked product: strictly lower key-key part on one half, transposed query-key part on the other. -/
def mMat (ao ae po : BitVec 32) (k8 : FVec F S64x256 .fp8e4m3) (rhs : FVec F S128x256 .fp8e4m3)
    (sk sq : FVec F S1x1 .f32) (rk rq : FVec F S64x1 .f32) (gRow bRow : FVec F S1x128 .f32) (gCol : FVec F S64x1 .f32) :
    FVec F S64x128 .f32 :=
  mulf (mulf (mulf (matmul dot_S64x256_S128x256_S64x128_1_1_0_0_n_n none k8 rhs (constant S64x128 .f32 0x00000000#32))
      (broadcastTo S64x128 rk (by decide)))
    (broadcastTo S64x128 (laneScale ao ae po sk sq rk rq bRow) (by decide))) (expo ao ae po gRow gCol)

/-- The right-hand side of the triangular solve. -/
def zMat (ao ae po : BitVec 32) (m : FVec F S64x128 .f32) (sk : FVec F S1x1 .f32) (rk rq : FVec F S64x1 .f32)
    (eRow bRow : FVec F S1x128 .f32) (bCol : FVec F S64x1 .f32) : FVec F S64x128 .f32 :=
  select (inA ao ae)
    (select (eye ao) (broadcastTo S64x128 (shapeCast S1x128
      (mulf (mulf (mulf eRow bRow) (rRow ao po rk rq)) (broadcastTo S1x128 sk (by decide))) (by decide)) (by decide))
      (cst S64x128 0x00000000#32))
    (mulf m (broadcastTo S64x128 bCol (by decide)))

/-! ## Forward substitution on the four diagonal blocks, side by side -/

def lane32 : IVec S32x128 32 := extractStridedSlice S32x128 ![0, 0] lane (by decide)

/-- The four diagonal blocks of a pair of units, side by side. -/
def diag (m0 m1 : FVec F S64x128 .f32) : FVec F S32x128 .f32 :=
  select (cmpi .slt lane32 (broadcast S32x128 32#32)) (extractStridedSlice S32x128 ![0, 0] m0 (by decide))
    (select (cmpi .slt lane32 (broadcast S32x128 64#32)) (extractStridedSlice S32x128 ![32, 0] m0 (by decide))
      (select (cmpi .slt lane32 (broadcast S32x128 96#32)) (extractStridedSlice S32x128 ![0, 0] m1 (by decide))
        (extractStridedSlice S32x128 ![32, 0] m1 (by decide))))

def lane8 : IVec S8x128 32 := iota .tc S8x128 32 [1] (by decide)
def row8 : IVec S8x128 32 := iota .tc S8x128 32 [0] (by decide)
def base8 : IVec S8x128 32 := andi lane8 (broadcast S8x128 4294967264#32)

theorem slices_tile (i : ℕ) (h : i < 4) : S32x128.Slices ![8 * i, 0] S8x128 := by
  have : ∀ i : Fin 4, S32x128.Slices ![8 * i.val, 0] S8x128 := by decide
  exact this ⟨i, h⟩

theorem slices_row (j : ℕ) : S8x128.Slices ![j % 8, 0] S1x128 := by
  have : ∀ i : Fin 8, S8x128.Slices ![i.val, 0] S1x128 := by decide
  exact this ⟨j % 8, Nat.mod_lt _ (by decide)⟩

/-- Rows `8 i … 8 i + 7`. -/
def tile (a : FVec F S32x128 .f32) (i : Fin 4) : FVec F S8x128 .f32 :=
  extractStridedSlice S8x128 ![8 * i.val, 0] a (slices_tile i.val i.isLt)

/-- The identity's rows `8 i … 8 i + 7`, block by block. -/
def eye8 (i : Fin 4) : FVec F S8x128 .f32 :=
  select (cmpi .eq (andi lane8 (broadcast S8x128 31#32)) (addi row8 (broadcast S8x128 (BitVec.ofNat 32 (8 * i.val)))))
    (cst S8x128 0x3F800000#32) (cst S8x128 0x00000000#32)

/-- The lane of column `j` of the block a lane lies in. -/
def idx8 (j : ℕ) : IVec S8x128 32 := addi base8 (broadcast S8x128 (BitVec.ofNat 32 j))

/-- Column `j` of each block, along its block's lanes. -/
def col8 (t : FVec F S8x128 .f32) (j : ℕ) : FVec F S8x128 .f32 :=
  dynamicGather 1 t (shapeCast S8x128 (shapeCast S8x128x1
    (select (cmpi .slt (idx8 j) (broadcast S8x128 0#32)) (addi (idx8 j) (broadcast S8x128 128#32)) (idx8 j))
    (by decide)) (by decide))

/-- Step `j` of the substitution, on the tiles that still have rows below row `j`. -/
def fsStep (a : FVec F S32x128 .f32) (j : ℕ) (t : ℕ → FVec F S8x128 .f32) (i : ℕ) : FVec F S8x128 .f32 :=
  bif Nat.ble ((j + 1) / 8) i then
    subf (t i) (mulf (col8 (tile a (Fin.ofNat 4 i)) j)
      (broadcastTo S8x128 (extractStridedSlice S1x128 ![j % 8, 0] (t (j / 8)) (slices_row j)) (by decide)))
  else t i

/-- The tiles after `n` steps. -/
def fs (a : FVec F S32x128 .f32) (n : ℕ) : ℕ → FVec F S8x128 .f32 :=
  Nat.rec (motive := fun _ => ℕ → FVec F S8x128 .f32) (fun i => eye8 (Fin.ofNat 4 i)) (fun j t => fsStep a j t) n

/-- The inverses of the four blocks, side by side. -/
def fsInv (a : FVec F S32x128 .f32) : FVec F S32x128 .f32 :=
  concatenate S32x128 0 [⟨S8x128, fs a 31 0⟩, ⟨S8x128, fs a 31 1⟩, ⟨S8x128, fs a 31 2⟩, ⟨S8x128, fs a 31 3⟩] (by simp only [List.map]; decide)

/-! ## Three-way splits and stacked products -/

def hi {s : Shape} (x : FVec F s .f32) : FVec F s .bf16 := truncf .bf16 x (by decide)
def rem {s : Shape} (x : FVec F s .f32) : FVec F s .f32 := subf x (extf .f32 (hi x) (by decide))
def mid {s : Shape} (x : FVec F s .f32) : FVec F s .bf16 := hi (rem x)
def lo {s : Shape} (x : FVec F s .f32) : FVec F s .bf16 := hi (rem (rem x))

def stackL32 (x : FVec F S32x128 .f32) : FVec F S128x192 .bf16 :=
  transpose S128x192 [1, 0] (concatenate S192x128 0 [⟨S32x128, hi x⟩, ⟨S32x128, hi x⟩, ⟨S32x128, hi x⟩, ⟨S32x128, mid x⟩,
    ⟨S32x128, mid x⟩, ⟨S32x128, lo x⟩] (by simp only [List.map]; decide)) (by decide)
def stackR32 (x : FVec F S32x128 .f32) : FVec F S192x128 .bf16 :=
  concatenate S192x128 0 [⟨S32x128, hi x⟩, ⟨S32x128, mid x⟩, ⟨S32x128, lo x⟩, ⟨S32x128, hi x⟩, ⟨S32x128, mid x⟩, ⟨S32x128, hi x⟩]
    (by simp only [List.map]; decide)
def stackL64 (x : FVec F S64x128 .f32) : FVec F S128x384 .bf16 :=
  transpose S128x384 [1, 0] (concatenate S384x128 0 [⟨S64x128, hi x⟩, ⟨S64x128, hi x⟩, ⟨S64x128, hi x⟩, ⟨S64x128, mid x⟩,
    ⟨S64x128, mid x⟩, ⟨S64x128, lo x⟩] (by simp only [List.map]; decide)) (by decide)
def stackR64 (x : FVec F S64x512 .f32) : FVec F S384x512 .bf16 :=
  concatenate S384x512 0 [⟨S64x512, hi x⟩, ⟨S64x512, mid x⟩, ⟨S64x512, lo x⟩, ⟨S64x512, hi x⟩, ⟨S64x512, mid x⟩, ⟨S64x512, hi x⟩]
    (by simp only [List.map]; decide)

theorem slices_lat (o : ℕ) (h : o < 4) : S128x192.Slices ![32 * o, 0] S32x192 := by
  have : ∀ i : Fin 4, S128x192.Slices ![32 * i.val, 0] S32x192 := by decide
  exact this ⟨o, h⟩

/-- The `o`th 32 rows of a stacked left operand. -/
def lat (x : FVec F S128x192 .bf16) (o : Fin 4) : FVec F S32x192 .bf16 :=
  extractStridedSlice S32x192 ![32 * o.val, 0] x (slices_lat o.val o.isLt)

def mm32 (l : FVec F S32x192 .bf16) (x : FVec F S32x128 .f32) : FVec F S32x128 .f32 :=
  matmul dot_S32x192_S192x128_S32x128_1_0_0_1_n_n none l (stackR32 x) (constant S32x128 .f32 0x00000000#32)

/-- The off-diagonal blocks of a pair of units. -/
def off (m0 m1 : FVec F S64x128 .f32) : FVec F S32x128 .f32 :=
  select (cmpi .slt lane32 (broadcast S32x128 64#32)) (extractStridedSlice S32x128 ![32, 0] m0 (by decide))
    (extractStridedSlice S32x128 ![32, 0] m1 (by decide))

/-- The lower half of the solve. -/
def y2 (t : FVec F S128x192 .bf16) (o2 : Fin 4) (z : FVec F S64x128 .f32) : FVec F S32x128 .f32 :=
  mm32 (lat t o2) (extractStridedSlice S32x128 ![32, 0] z (by decide))
/-- The upper half of the solve. -/
def y1 (t a : FVec F S128x192 .bf16) (o1 o2 : Fin 4) (z : FVec F S64x128 .f32) : FVec F S32x128 .f32 :=
  mm32 (lat t o1) (subf (extractStridedSlice S32x128 ![0, 0] z (by decide)) (mm32 (lat a o1) (y2 t o2 z)))
def yMat (t a : FVec F S128x192 .bf16) (o1 o2 : Fin 4) (z : FVec F S64x128 .f32) : FVec F S64x128 .f32 :=
  concatenate S64x128 0 [⟨S32x128, y1 t a o1 o2 z⟩, ⟨S32x128, y2 t o2 z⟩] (by simp only [List.map]; decide)

/-! ## The state's part -/

def ckCol (rk : FVec F S64x1 .f32) (sk : FVec F S1x1 .f32) (gCol : FVec F S64x1 .f32) : FVec F S64x1 .f32 :=
  mulf (mulf (exp gCol) rk) (broadcastTo S64x1 sk (by decide))
def cqCol (rq : FVec F S64x1 .f32) (sq : FVec F S1x1 .f32) (gCol : FVec F S64x1 .f32) : FVec F S64x1 .f32 :=
  mulf (mulf (exp gCol) rq) (broadcastTo S64x1 (mulf sq (cst S1x1 0x3D800000#32)) (by decide))

def wide (x : FVec F S64x256 .fp8e4m3) : FVec F S64x256 .bf16 := extf .bf16 x (by decide)

def mmS (l : FVec F S128x256 .bf16) (r : FVec F S256x512 .bf16) : FVec F S128x512 .f32 :=
  matmul dot_S128x256_S256x512_S128x512_1_0_0_1_n_n none l r (constant S128x512 .f32 0x00000000#32)

/-- Key and query codes against the state. -/
def xMat (k8 q8 : FVec F S64x256 .fp8e4m3) (st : FVec F S256x512 .f32) : FVec F S128x512 .f32 :=
  addf (addf (mmS (concatenate S128x256 0 [⟨S64x256, wide k8⟩, ⟨S64x256, wide q8⟩] (by simp only [List.map]; decide)) (hi st))
      (mmS (concatenate S128x256 0 [⟨S64x256, wide k8⟩, ⟨S64x256, wide q8⟩] (by simp only [List.map]; decide)) (mid st)))
    (mmS (concatenate S128x256 0 [⟨S64x256, wide k8⟩, ⟨S64x256, wide q8⟩] (by simp only [List.map]; decide)) (lo st))

/-- The values less what the state predicts. -/
def rMat (v : FVec F S64x512 .bf16) (ck : FVec F S64x1 .f32) (x : FVec F S128x512 .f32) : FVec F S64x512 .f32 :=
  subf (extf .f32 v (by decide)) (mulf (broadcastTo S64x512 ck (by decide)) (extractStridedSlice S64x512 ![0, 0] x (by decide)))

/-- The solve applied to them. -/
def trMat (y : FVec F S64x128 .f32) (r : FVec F S64x512 .f32) : FVec F S128x512 .f32 :=
  matmul dot_S128x384_S384x512_S128x512_1_0_0_1_n_n none (stackL64 y) (stackR64 r) (constant S128x512 .f32 0x00000000#32)

theorem slices_half (o : ℕ) (h : o < 2) : S128x512.Slices ![64 * o, 0] S64x512 := by
  have : ∀ i : Fin 2, S128x512.Slices ![64 * i.val, 0] S64x512 := by decide
  exact this ⟨o, h⟩

/-- The `o`th 64 rows. -/
def half (x : FVec F S128x512 .f32) (o : Fin 2) : FVec F S64x512 .f32 :=
  extractStridedSlice S64x512 ![64 * o.val, 0] x (slices_half o.val o.isLt)

/-- The unit's output rows. -/
def oMat (cq : FVec F S64x1 .f32) (x tr : FVec F S128x512 .f32) (po : Fin 2) : FVec F S64x512 .bf16 :=
  hi (addf (mulf (broadcastTo S64x512 cq (by decide)) (half x 1)) (half tr po))

/-- The unit's new state. -/
def sMat (k8 : FVec F S64x256 .fp8e4m3) (dec : FVec F S1x1 .f32) (st : FVec F S256x512 .f32) (vd : FVec F S64x512 .f32) :
    FVec F S256x512 .f32 :=
  addf (mulf (broadcastTo S256x512 dec (by decide)) st)
    (matmul dot_S256x192_S192x512_S256x512_1_0_0_1_n_n none
      (transpose S256x192 [1, 0] (concatenate S192x256 0 [⟨S64x256, wide k8⟩, ⟨S64x256, wide k8⟩, ⟨S64x256, wide k8⟩] (by simp only [List.map]; decide)) (by decide))
      (concatenate S192x512 0 [⟨S64x512, hi vd⟩, ⟨S64x512, mid vd⟩, ⟨S64x512, lo vd⟩] (by simp only [List.map]; decide))
      (constant S256x512 .f32 0x00000000#32))

/-! ## The gates of a chunk -/

theorem slices_g (u : ℕ) (h : u < 6) : S6x128.Slices ![u, 0] S1x128 := by
  have : ∀ i : Fin 6, S6x128.Slices ![i.val, 0] S1x128 := by decide
  exact this ⟨u, h⟩
theorem slices_c (u : ℕ) (h : u < 6) : S128x8.Slices ![0, u] S64x1 := by
  have : ∀ i : Fin 6, S128x8.Slices ![0, i.val] S64x1 := by decide
  exact this ⟨u, h⟩
theorem slices_d (u : ℕ) (h : u < 6) : S6x128.Slices ![u, 0] S1x1 := by
  have : ∀ i : Fin 6, S6x128.Slices ![i.val, 0] S1x1 := by decide
  exact this ⟨u, h⟩

def gRow (g : FVec F S6x128 .f32) (u : Fin 6) : FVec F S1x128 .f32 := extractStridedSlice S1x128 ![u.val, 0] g (slices_g u.val u.isLt)
/-- A unit's gates as a column. -/
def gCol (g : FVec F S6x128 .f32) (u : Fin 6) : FVec F S64x1 .f32 :=
  extractStridedSlice S64x1 ![0, u.val] (transpose S128x8 [1, 0]
    (concatenate S8x128 0 [⟨S6x128, g⟩, ⟨S2x128, cst S2x128 0x00000000#32⟩] (by simp only [List.map]; decide)) (by decide)) (slices_c u.val u.isLt)
def gLast (g : FVec F S6x128 .f32) : FVec F S6x128 .f32 :=
  broadcastTo S6x128 (shapeCast S6x1 (extractStridedSlice S6x1 ![0, 63] g (by decide)) (by decide)) (by decide)
def decay (g : FVec F S6x128 .f32) : FVec F S6x128 .f32 := exp (gLast g)
def toEnd (g : FVec F S6x128 .f32) : FVec F S6x128 .f32 := exp (subf (gLast g) g)
def decU (g : FVec F S6x128 .f32) (u : Fin 6) : FVec F S1x1 .f32 := extractStridedSlice S1x1 ![u.val, 0] (decay g) (slices_d u.val u.isLt)

/-! ## A unit in its pair: `p` says which of the two it is -/

def aO (p : Fin 2) : BitVec 32 := bif Nat.beq p.val 0 then 0#32 else 64#32
def aE (p : Fin 2) : BitVec 32 := bif Nat.beq p.val 0 then 64#32 else 128#32
def pO (p : Fin 2) : BitVec 32 := bif Nat.beq p.val 0 then 64#32 else 0#32

def rhs (p : Fin 2) (k8 q8 : FVec F S64x256 .fp8e4m3) : FVec F S128x256 .fp8e4m3 :=
  concatenate S128x256 0 [⟨S64x256, bif Nat.beq p.val 0 then k8 else q8⟩, ⟨S64x256, bif Nat.beq p.val 0 then q8 else k8⟩] (by simp only [List.map]; decide)

/-- A unit's stacked product from its keys, queries and the chunk's gates. -/
def uM (p : Fin 2) (u : Fin 6) (k q : FVec F S64x256 .bf16) (g b : FVec F S6x128 .f32) : FVec F S64x128 .f32 :=
  mMat (aO p) (aE p) (pO p) (codes k) (rhs p (codes k) (codes q)) (scale (amax k)) (scale (amax q)) (norms k) (norms q)
    (gRow g u) (gRow b u) (gCol g u)

def uZ (p : Fin 2) (u : Fin 6) (k q : FVec F S64x256 .bf16) (g b : FVec F S6x128 .f32) : FVec F S64x128 .f32 :=
  zMat (aO p) (aE p) (pO p) (uM p u k q g b) (scale (amax k)) (norms k) (norms q) (gRow (toEnd g) u) (gRow b u) (gCol b u)

/-- A unit's solve, its partner's product beside it. -/
def uY (p : Fin 2) (u : Fin 6) (m0 m1 : FVec F S64x128 .f32) (k q : FVec F S64x256 .bf16) (g b : FVec F S6x128 .f32) : FVec F S64x128 .f32 :=
  yMat (stackL32 (fsInv (diag m0 m1))) (stackL32 (off m0 m1)) (bif Nat.beq p.val 0 then 0 else 2) (bif Nat.beq p.val 0 then 1 else 3)
    (uZ p u k q g b)

def uX (k q : FVec F S64x256 .bf16) (st : FVec F S256x512 .f32) : FVec F S128x512 .f32 := xMat (codes k) (codes q) st

def uTr (p : Fin 2) (u : Fin 6) (m0 m1 : FVec F S64x128 .f32) (k q : FVec F S64x256 .bf16) (v : FVec F S64x512 .bf16) (g b : FVec F S6x128 .f32)
    (st : FVec F S256x512 .f32) : FVec F S128x512 .f32 :=
  trMat (uY p u m0 m1 k q g b) (rMat v (ckCol (norms k) (scale (amax k)) (gCol g u)) (uX k q st))

def uO (p : Fin 2) (u : Fin 6) (m0 m1 : FVec F S64x128 .f32) (k q : FVec F S64x256 .bf16) (v : FVec F S64x512 .bf16) (g b : FVec F S6x128 .f32)
    (st : FVec F S256x512 .f32) : FVec F S64x512 .bf16 :=
  oMat (cqCol (norms q) (scale (amax q)) (gCol g u)) (uX k q st) (uTr p u m0 m1 k q v g b st) (bif Nat.beq p.val 0 then 1 else 0)

def uS (p : Fin 2) (u : Fin 6) (m0 m1 : FVec F S64x128 .f32) (k q : FVec F S64x256 .bf16) (v : FVec F S64x512 .bf16) (g b : FVec F S6x128 .f32)
    (st : FVec F S256x512 .f32) : FVec F S256x512 .f32 :=
  sMat (codes k) (decU g u) st (half (uTr p u m0 m1 k q v g b st) (bif Nat.beq p.val 0 then 0 else 1))

/-! ## The chunk's gates from the two loads -/

/-- The block-triangular matrix of ones, two chunks at a time. -/
def tri : FVec F S128x128 .f32 :=
  select (andi (cmpi .sle (iota .tc S128x128 32 [0] (by decide)) (iota .tc S128x128 32 [1] (by decide)))
    (xori (xori (cmpi .sge (iota .tc S128x128 32 [0] (by decide)) (broadcast S128x128 64#32))
        (cmpi .sge (iota .tc S128x128 32 [1] (by decide)) (broadcast S128x128 64#32)))
      (constantI S128x128 1 1#1)))
    (cst S128x128 0x3F800000#32) (cst S128x128 0x00000000#32)

/-- The cumulated gates of two chunks. -/
def gsum (g : FVec F S1x6x128 .f32) : FVec F S6x128 .f32 :=
  matmul dot_S6x128_S128x128_S6x128_1_0_0_1_n_n (some .fp32) (shapeCast S6x128 g (by decide)) tri (constant S6x128 .f32 0x00000000#32)

/-- `arg1` modulo two, the way it prints. -/
def par (a : BitVec 32) : BitVec 1 :=
  Scalar.cmpi .eq (Scalar.select (Scalar.andi (Scalar.xori (Scalar.cmpi .slt (Scalar.remsi a (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi a (Scalar.select (Scalar.cmpi .eq 2#32 0#32) 1#32 2#32)) 0#32))
    (Scalar.addi (Scalar.remsi a (Scalar.select (Scalar.cmpi .eq 2#32 0#32) 1#32 2#32)) (Scalar.select (Scalar.cmpi .eq 2#32 0#32) 1#32 2#32))
    (Scalar.remsi a (Scalar.select (Scalar.cmpi .eq 2#32 0#32) 1#32 2#32))) 0#32

/-- The lanes of the chunk: as they are, or from the other half. -/
def roll (a : BitVec 32) (x : FVec F S6x128 .f32) : FVec F S6x128 .f32 :=
  select (xori (xori (cmpi .slt (iota .tc S6x128 32 [1] (by decide)) (broadcast S6x128 64#32))
      (broadcastTo S6x128 (broadcast S6x128 (par a)) (by decide))) (constantI S6x128 1 1#1))
    x (dynamicRotate 1 64#32 none x (by decide))

def gG (a : BitVec 32) (g : FVec F S1x6x128 .f32) : FVec F S6x128 .f32 := roll a (gsum g)
def gB (a : BitVec 32) (b : FVec F S1x6x128 .f32) : FVec F S6x128 .f32 := roll a (shapeCast S6x128 b (by decide))

/-! ## The final state's quantiser -/

def smax (st : FVec F S256x512 .f32) : FVec F S1x512 .f32 :=
  mulf (shapeCast S1x512 (multiReduction .maximumf [0] S512 (absf st) 0xFF800000#32 (by decide) (.inl rfl) rfl) (by decide))
    (cst S1x512 0x3B124925#32)

def scodes (st : FVec F S256x512 .f32) : FVec F S256x512 .fp8e4m3 :=
  truncf .fp8e4m3 (minimumf (cst S256x512 0x43E00000#32) (maximumf (cst S256x512 0xC3E00000#32)
    (mulf st (broadcastTo S256x512 (inv (smax st)) (by decide))))) (by decide)

/-- The starting state. -/
def st0 (s : FVec F S1x1x256x512 .fp8e4m3) (ss : FVec F S1x1x512 .f32) : FVec F S256x512 .f32 :=
  mulf (minimumf (cst S256x512 0x43E00000#32) (maximumf (cst S256x512 0xC3E00000#32)
      (extf .f32 (shapeCast S256x512 s (by decide)) (by decide))))
    (broadcastTo S256x512 (shapeCast S1x512 ss (by decide)) (by decide))

end Cert.Body

end
-- ==== Proof.Pieces.lean ====
/- The pieces each case of the body stores, as the one copy of the body (Body.lean) states them: six units at a time. -/
module

public import proofs.«01_k».proof.Proof.Gen.KernelIdeal.Frame
public import proofs.«01_k».proof.Proof.Body
public import Idealize.ShloMosaic.Lib.Pipeline.ReadBack

@[expose] public section

set_option maxRecDepth 16384

noncomputable section

namespace Cert.Body

open Idealize.ShloMosaic Cert.KernelIdeal Cert.KernelIdeal.Gen Idealize.SL.Sem

variable {F : FTy → Type} [FloatOps F] [Named F]

theorem row_kq (u : Fin 6) : ∀ a, (![0, u.val, 0, 0] : Fin 4 → ℕ) a + S1x1x64x256.size a ≤ S1x6x64x256.size a := by
  revert u; decide
theorem row_v (u : Fin 6) : ∀ a, (![0, u.val, 0, 0] : Fin 4 → ℕ) a + S1x1x64x512.size a ≤ S1x6x64x512.size a := by
  revert u; decide
theorem row_st (u : Fin 6) : ∀ a, (![u.val, 0, 0] : Fin 3 → ℕ) a + S1x256x512.size a ≤ S6x256x512.size a := by
  revert u; decide
theorem row_s (u : Fin 6) : ∀ a, (![0, u.val, 0] : Fin 3 → ℕ) a + S1x1x10.size a ≤ S1x6x10.size a := by
  revert u; decide
theorem row_sf (u : Fin 6) : ∀ a, (![0, u.val, 0, 0] : Fin 4 → ℕ) a + S1x1x256x512.size a ≤ S1x6x256x512.size a := by
  revert u; decide
theorem row_sfs (u : Fin 6) : ∀ a, (![0, u.val, 0] : Fin 3 → ℕ) a + S1x1x512.size a ≤ S1x6x512.size a := by
  revert u; decide

abbrev rKQ (u : Fin 6) : Rect S1x6x64x256 := Rect.unit ![0, u.val, 0, 0] S1x1x64x256.size (row_kq u)
abbrev rV (u : Fin 6) : Rect S1x6x64x512 := Rect.unit ![0, u.val, 0, 0] S1x1x64x512.size (row_v u)
abbrev rS (u : Fin 6) : Rect S1x6x10 := Rect.unit ![0, u.val, 0] S1x1x10.size (row_s u)
abbrev rSt (u : Fin 6) : Rect S6x256x512 := Rect.unit ![u.val, 0, 0] S1x256x512.size (row_st u)
abbrev rSf (u : Fin 6) : Rect S1x6x256x512 := Rect.unit ![0, u.val, 0, 0] S1x1x256x512.size (row_sf u)
abbrev rSfs (u : Fin 6) : Rect S1x6x512 := Rect.unit ![0, u.val, 0] S1x1x512.size (row_sfs u)

def sixth {α : Type*} (f : Fin 6 → α) : List α := [f 5, f 4, f 3, f 2, f 1, f 0]

/-- unit in its pair -/
def pr (u : Fin 6) : Fin 2 := Fin.ofNat 2 u.val
def ev (u : Fin 6) : Fin 6 := Fin.ofNat 6 (2 * (u.val / 2))
def od (u : Fin 6) : Fin 6 := Fin.ofNat 6 (2 * (u.val / 2) + 1)

def mAll (k q : Fin 6 → FVec F S64x256 .bf16) (g b : FVec F S6x128 .f32) (u : Fin 6) : FVec F S64x128 .f32 :=
  uM (pr u) u (k u) (q u) g b
def oAll (k q : Fin 6 → FVec F S64x256 .bf16) (v : Fin 6 → FVec F S64x512 .bf16) (g b : FVec F S6x128 .f32)
    (st : Fin 6 → FVec F S256x512 .f32) (u : Fin 6) : FVec F S64x512 .bf16 :=
  uO (pr u) u (mAll k q g b (ev u)) (mAll k q g b (od u)) (k u) (q u) (v u) g b (st u)
def sAll (k q : Fin 6 → FVec F S64x256 .bf16) (v : Fin 6 → FVec F S64x512 .bf16) (g b : FVec F S6x128 .f32)
    (st : Fin 6 → FVec F S256x512 .f32) (u : Fin 6) : FVec F S256x512 .f32 :=
  uS (pr u) u (mAll k q g b (ev u)) (mAll k q g b (od u)) (k u) (q u) (v u) g b (st u)

def ldKQ (x : Fin 6 → Vec F S1x1x64x256 .bf16) (u : Fin 6) : FVec F S64x256 .bf16 := shapeCast S64x256 (x u) (by decide)
def ldV (x : Fin 6 → Vec F S1x1x64x512 .bf16) (u : Fin 6) : FVec F S64x512 .bf16 := shapeCast S64x512 (x u) (by decide)
def ldSt (x : Fin 6 → Vec F S1x256x512 .f32) (u : Fin 6) : FVec F S256x512 .f32 := shapeCast S256x512 (x u) (by decide)

def putO (f : Fin 6 → FVec F S64x512 .bf16) : List (View.Piece (Elt F) S1x6x64x512 .bf16) :=
  sixth fun u => ⟨rV u, shapeCast S1x1x64x512 (f u) (by decide)⟩
def putSt (f : Fin 6 → FVec F S256x512 .f32) : List (View.Piece (Elt F) S6x256x512 .f32) :=
  sixth fun u => ⟨rSt u, shapeCast S1x256x512 (f u) (by decide)⟩
def putC (f : Fin 6 → FVec F S64x256 .fp8e4m3) : List (View.Piece (Elt F) S1x6x64x256 .fp8e4m3) :=
  sixth fun u => ⟨rKQ u, shapeCast S1x1x64x256 (f u) (by decide)⟩
/-- a row of scales with this chunk's entry replaced -/
def setS (a : BitVec 32) (s : FVec F S1x1 .f32) (old : FVec F S1x1x10 .f32) : FVec F S1x1x10 .f32 :=
  shapeCast S1x1x10 (select (cmpi .eq (iota .tc S1x10 32 [1] (by decide)) (broadcast S1x10 a))
    (broadcastTo S1x10 (shapeCast S1x1 s (by decide)) (by decide)) (shapeCast S1x10 old (by decide))) (by decide)
def putS (a : BitVec 32) (f : Fin 6 → FVec F S1x1 .f32) (old : Fin 6 → FVec F S1x1x10 .f32) :
    List (View.Piece (Elt F) S1x6x10 .f32) :=
  sixth fun u => ⟨rS u, setS a (f u) (old u)⟩

def putSf (f : Fin 6 → FVec F S256x512 .f32) : List (View.Piece (Elt F) S1x6x256x512 .fp8e4m3) :=
  sixth fun u => ⟨rSf u, shapeCast S1x1x256x512 (scodes (f u)) (by decide)⟩
def putSfs (f : Fin 6 → FVec F S256x512 .f32) : List (View.Piece (Elt F) S1x6x512 .f32) :=
  sixth fun u => ⟨rSfs u, shapeCast S1x1x512 (scale (smax (f u))) (by decide)⟩
/-- The zero fill of a row of scales. -/
def fillS : List (View.Piece (Elt F) S1x6x10 .f32) := [⟨Rect.unit ![0, 0, 0] S1x6x10.size (by decide), cst S1x6x10 0x00000000#32⟩]

variable (c : Dev nD) (i : grid0.Coords) (arg2 : Memref sig .tc .vmem S1x6x64x256 .bf16) (harg2 : arg2.IsWhole) (arg3 : Memref sig .tc .vmem S1x6x64x256 .bf16) (harg3 : arg3.IsWhole) (arg4 : Memref sig .tc .vmem S1x6x64x512 .bf16) (harg4 : arg4.IsWhole) (arg5 : Memref sig .tc .vmem S1x6x640 .f32) (harg5 : arg5.IsWhole) (arg6 : Memref sig .tc .vmem S1x6x640 .f32) (harg6 : arg6.IsWhole)
 (arg7 : Memref sig .tc .vmem S1x6x256x512 .fp8e4m3) (harg7 : arg7.IsWhole) (arg8 : Memref sig .tc .vmem S1x6x512 .f32) (harg8 : arg8.IsWhole) (arg9 : Memref sig .tc .vmem S1x6x64x512 .bf16) (harg9 : arg9.IsWhole) (arg10 : Memref sig .tc .vmem S1x6x256x512 .fp8e4m3) (harg10 : arg10.IsWhole) (arg11 : Memref sig .tc .vmem S1x6x512 .f32) (harg11 : arg11.IsWhole) (arg12 : Memref sig .tc .vmem S1x6x64x256 .fp8e4m3) (harg12 : arg12.IsWhole) (arg13 : Memref sig .tc .vmem S1x6x10 .f32) (harg13 : arg13.IsWhole)
 (arg14 : Memref sig .tc .vmem S1x6x64x256 .fp8e4m3) (harg14 : arg14.IsWhole) (arg15 : Memref sig .tc .vmem S1x6x10 .f32) (harg15 : arg15.IsWhole)
 (arg16 : Memref sig .tc .vmem S6x256x512 .f32) (harg16 : arg16.IsWhole)
    (x0 : Vec F S1x6x64x256 .bf16) (x1 : Vec F S1x6x64x256 .bf16) (x2 : Vec F S1x6x64x512 .bf16) (x3 : Vec F S1x6x640 .f32) (x4 : Vec F S1x6x640 .f32) (x5 : Vec F S1x6x256x512 .fp8e4m3) (x6 : Vec F S1x6x512 .f32) (xo11 : Vec F S1x6x10 .f32) (xo13 : Vec F S1x6x10 .f32) (xs0 : Vec F S6x256x512 .f32)

/-- A point's keys, by unit. -/
abbrev kU : Fin 6 → FVec F S64x256 .bf16 := ldKQ fun u => View.readAt (Elt F) arg3.view (rKQ u).toLoadRect (harg3.unread x1)
/-- Its queries. -/
abbrev qU : Fin 6 → FVec F S64x256 .bf16 := ldKQ fun u => View.readAt (Elt F) arg2.view (rKQ u).toLoadRect (harg2.unread x0)
/-- Its values. -/
abbrev vU : Fin 6 → FVec F S64x512 .bf16 := ldV fun u => View.readAt (Elt F) arg4.view (rV u).toLoadRect (harg4.unread x2)
/-- Its cumulated gates. -/
abbrev gU := gG (F := F) (BitVec.ofNat 32 (i 1).val) (View.readAt (Elt F) arg5.view (Rect.unit (s := S1x6x640) (k0_off1 i) S1x6x128.size (k0_off1_inb i)).toLoadRect (harg5.unread x3))
/-- Its step sizes. -/
abbrev bU := gB (F := F) (BitVec.ofNat 32 (i 1).val) (View.readAt (Elt F) arg6.view (Rect.unit (s := S1x6x640) (k0_off1 i) S1x6x128.size (k0_off1_inb i)).toLoadRect (harg6.unread x4))
/-- The state it starts from, after the first chunk. -/
abbrev stU : Fin 6 → FVec F S256x512 .f32 := ldSt fun u => View.readAt (Elt F) arg16.view (rSt u).toLoadRect (harg16.unread xs0)

abbrev sfU : Fin 6 → FVec F S1x1x256x512 .fp8e4m3 := fun u => View.readAt (Elt F) arg7.view (rSf u).toLoadRect (harg7.unread x5)
abbrev sfsU : Fin 6 → FVec F S1x1x512 .f32 := fun u => View.readAt (Elt F) arg8.view (rSfs u).toLoadRect (harg8.unread x6)
/-- The starting states. -/
abbrev iU (u : Fin 6) : FVec F S256x512 .f32 := st0 (sfU arg7 harg7 x5 u) (sfsU arg8 harg8 x6 u)
abbrev oldB (arg : Memref sig .tc .vmem S1x6x10 .f32) (harg : arg.IsWhole) (x : Vec F S1x6x10 .f32) : Fin 6 → FVec F S1x1x10 .f32 :=
  fun u => View.readAt (Elt F) arg.view (rS u).toLoadRect (harg.unread x)
/-- The scales of six blocks. -/
abbrev skU (k : Fin 6 → FVec F S64x256 .bf16) : Fin 6 → FVec F S1x1 .f32 := fun u => scale (amax (k u))
/-- The codes of six blocks. -/
abbrev ckU (k : Fin 6 → FVec F S64x256 .bf16) : Fin 6 → FVec F S64x256 .fp8e4m3 := fun u => codes (k u)
/-- What the first chunk's units load of the state. -/
abbrev stA : Fin 6 → Vec F S1x256x512 .f32 := ![kernelRun0_A.sl.v1919 c arg7 harg7 arg8 harg8 arg16 x5 x6,
    kernelRun0_A.sl.v2021 c i arg2 harg2 arg3 harg3 arg4 harg4 arg5 harg5 arg6 harg6 arg7 harg7 arg8 harg8 arg16 x0 x1 x2 x3 x4 x5 x6,
    kernelRun0_A.sl.v3920 c i arg2 harg2 arg3 harg3 arg4 harg4 arg5 harg5 arg6 harg6 arg7 harg7 arg8 harg8 arg16 x0 x1 x2 x3 x4 x5 x6,
    kernelRun0_A.sl.v4022 c i arg2 harg2 arg3 harg3 arg4 harg4 arg5 harg5 arg6 harg6 arg7 harg7 arg8 harg8 arg16 x0 x1 x2 x3 x4 x5 x6,
    kernelRun0_A.sl.v5921 c i arg2 harg2 arg3 harg3 arg4 harg4 arg5 harg5 arg6 harg6 arg7 harg7 arg8 harg8 arg16 x0 x1 x2 x3 x4 x5 x6,
    kernelRun0_A.sl.v6023 c i arg2 harg2 arg3 harg3 arg4 harg4 arg5 harg5 arg6 harg6 arg7 harg7 arg8 harg8 arg16 x0 x1 x2 x3 x4 x5 x6]
/-- What they load of the key scales' rows. -/
abbrev oldA11 : Fin 6 → FVec F S1x1x10 .f32 := ![kernelRun0_A.sl.v354 c arg13,
    kernelRun0_A.sl.v749 c i arg3 harg3 arg13 x1,
    kernelRun0_A.sl.v2355 c i arg3 harg3 arg13 x1,
    kernelRun0_A.sl.v2750 c i arg3 harg3 arg13 x1,
    kernelRun0_A.sl.v4356 c i arg3 harg3 arg13 x1,
    kernelRun0_A.sl.v4751 c i arg3 harg3 arg13 x1]
/-- What they load of the query scales' rows. -/
abbrev oldA13 : Fin 6 → FVec F S1x1x10 .f32 := ![kernelRun0_A.sl.v362 c arg15,
    kernelRun0_A.sl.v757 c i arg2 harg2 arg15 x0,
    kernelRun0_A.sl.v2363 c i arg2 harg2 arg15 x0,
    kernelRun0_A.sl.v2758 c i arg2 harg2 arg15 x0,
    kernelRun0_A.sl.v4364 c i arg2 harg2 arg15 x0,
    kernelRun0_A.sl.v4759 c i arg2 harg2 arg15 x0]

theorem pieces_A_7 (h0 : _) (h1 : _) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6).1
      = putO (oAll (kU arg3 harg3 x1) (qU arg2 harg2 x0) (vU arg4 harg4 x2) (gU i arg5 harg5 x3) (bU i arg6 harg6 x4) (ldSt (stA c i arg2 harg2 arg3 harg3 arg4 harg4 arg5 harg5 arg6 harg6 arg7 harg7 arg8 harg8 arg16 x0 x1 x2 x3 x4 x5 x6))) := by sl_kernel_rfl
theorem pieces_A_10 (h0 : _) (h1 : _) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6).2.2.2.1
      = putC (ckU (kU arg3 harg3 x1)) := by sl_kernel_rfl
theorem pieces_A_11 (h0 : _) (h1 : _) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6).2.2.2.2.1
      = putS (BitVec.ofNat 32 (i 1).val) (skU (kU arg3 harg3 x1)) (oldA11 c i arg3 harg3 arg13 x1) ++ fillS := by sl_kernel_rfl
theorem pieces_A_12 (h0 : _) (h1 : _) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6).2.2.2.2.2.1
      = putC (ckU (qU arg2 harg2 x0)) := by sl_kernel_rfl
theorem pieces_A_13 (h0 : _) (h1 : _) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6).2.2.2.2.2.2.1
      = putS (BitVec.ofNat 32 (i 1).val) (skU (qU arg2 harg2 x0)) (oldA13 c i arg2 harg2 arg15 x0) ++ fillS := by sl_kernel_rfl
theorem pieces_A_14 (h0 : _) (h1 : _) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6).2.2.2.2.2.2.2.1
      = putSt (sAll (kU arg3 harg3 x1) (qU arg2 harg2 x0) (vU arg4 harg4 x2) (gU i arg5 harg5 x3) (bU i arg6 harg6 x4) (ldSt (stA c i arg2 harg2 arg3 harg3 arg4 harg4 arg5 harg5 arg6 harg6 arg7 harg7 arg8 harg8 arg16 x0 x1 x2 x3 x4 x5 x6))) ++ putSt (iU arg7 harg7 arg8 harg8 x5 x6) := by sl_kernel_rfl
theorem pieces_B_7 (h0 : _) (h1 : _) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).1
      = putO (oAll (kU arg3 harg3 x1) (qU arg2 harg2 x0) (vU arg4 harg4 x2) (gU i arg5 harg5 x3) (bU i arg6 harg6 x4) (stU arg16 harg16 xs0)) := by sl_kernel_rfl
theorem pieces_B_10 (h0 : _) (h1 : _) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.1
      = putC (ckU (kU arg3 harg3 x1)) := by sl_kernel_rfl
theorem pieces_B_11 (h0 : _) (h1 : _) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.2.1
      = putS (BitVec.ofNat 32 (i 1).val) (skU (kU arg3 harg3 x1)) (oldB arg13 harg13 xo11) := by sl_kernel_rfl
theorem pieces_B_12 (h0 : _) (h1 : _) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.2.2.1
      = putC (ckU (qU arg2 harg2 x0)) := by sl_kernel_rfl
theorem pieces_B_13 (h0 : _) (h1 : _) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.2.2.2.1
      = putS (BitVec.ofNat 32 (i 1).val) (skU (qU arg2 harg2 x0)) (oldB arg15 harg15 xo13) := by sl_kernel_rfl
theorem pieces_B_14 (h0 : _) (h1 : _) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.2.2.2.2.1
      = putSt (sAll (kU arg3 harg3 x1) (qU arg2 harg2 x0) (vU arg4 harg4 x2) (gU i arg5 harg5 x3) (bU i arg6 harg6 x4) (stU arg16 harg16 xs0)) := by sl_kernel_rfl
/-- What the last chunk loads back of the state. -/
abbrev stC : Fin 6 → Vec F S1x256x512 .f32 := fun u => arg16.view.readCov (putSt (sAll (kU arg3 harg3 x1) (qU arg2 harg2 x0) (vU arg4 harg4 x2) (gU i arg5 harg5 x3) (bU i arg6 harg6 x4) (stU arg16 harg16 xs0))) (rSt u).toLoadRect

theorem pieces_C_7 (h0 : _) (h1 : _) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).1
      = putO (oAll (kU arg3 harg3 x1) (qU arg2 harg2 x0) (vU arg4 harg4 x2) (gU i arg5 harg5 x3) (bU i arg6 harg6 x4) (stU arg16 harg16 xs0)) := by sl_kernel_rfl
theorem pieces_C_8 (h0 : _) (h1 : _) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.1
      = putSf (ldSt (stC i arg2 harg2 arg3 harg3 arg4 harg4 arg5 harg5 arg6 harg6 arg16 harg16 x0 x1 x2 x3 x4 xs0)) := by sl_kernel_rfl
theorem pieces_C_9 (h0 : _) (h1 : _) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.1
      = putSfs (ldSt (stC i arg2 harg2 arg3 harg3 arg4 harg4 arg5 harg5 arg6 harg6 arg16 harg16 x0 x1 x2 x3 x4 xs0)) := by sl_kernel_rfl
theorem pieces_C_10 (h0 : _) (h1 : _) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.1
      = putC (ckU (kU arg3 harg3 x1)) := by sl_kernel_rfl
theorem pieces_C_11 (h0 : _) (h1 : _) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.2.1
      = putS (BitVec.ofNat 32 (i 1).val) (skU (kU arg3 harg3 x1)) (oldB arg13 harg13 xo11) := by sl_kernel_rfl
theorem pieces_C_12 (h0 : _) (h1 : _) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.2.2.1
      = putC (ckU (qU arg2 harg2 x0)) := by sl_kernel_rfl
theorem pieces_C_13 (h0 : _) (h1 : _) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.2.2.2.1
      = putS (BitVec.ofNat 32 (i 1).val) (skU (qU arg2 harg2 x0)) (oldB arg15 harg15 xo13) := by sl_kernel_rfl
theorem pieces_C_14 (h0 : _) (h1 : _) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0).2.2.2.2.2.2.2.1
      = putSt (sAll (kU arg3 harg3 x1) (qU arg2 harg2 x0) (vU arg4 harg4 x2) (gU i arg5 harg5 x3) (bU i arg6 harg6 x4) (stU arg16 harg16 xs0)) := by sl_kernel_rfl

end Cert.Body

end
-- ==== Proof.Canon.lean ====
/- What the stored pieces leave in each buffer, and what a unit loads back of them within one point. -/
module

public import proofs.«01_k».proof.Proof.Pieces
public import Idealize.ShloMosaic.Lib.WholeRead
public import Idealize.ShloMosaic.Lib.Pointwise
public import Idealize.ShloMosaic.Lib.Pipeline.ValueKit

@[expose] public section

set_option maxRecDepth 16384

noncomputable section

namespace Cert.Body

open Idealize.ShloMosaic Cert.KernelIdeal Cert.KernelIdeal.Gen Idealize.SL.Sem

variable {F : FTy → Type} [FloatOps F] [Named F]

/-- Six stores, one per unit, that are blocks of `G` and cover the buffer leave `G`. -/
theorem canon_sixth {s : Shape} {e : EltTy} (R : Fin 6 → Rect s) (pay : ∀ u, (R u).shape.Idx → Elt F e) (G : s.Idx → Elt F e)
    (L' : List (View.Piece (Elt F) s e)) (sel : s.Idx → Fin 6) (hp : ∀ u x, pay u x = G ((R u).emb x))
    (hs : ∀ y, y ∈ (R (sel y)).set) (y : s.Idx) :
    View.canon (sixth (fun u => (⟨R u, pay u⟩ : View.Piece (Elt F) s e)) ++ L') y = G y := by
  refine View.canon_append_of_piecesOf G L' (sixth fun u => ⟨R u, pay u⟩)
    ⟨hp 5, hp 4, hp 3, hp 2, hp 1, hp 0, trivial⟩ y ⟨⟨R (sel y), pay (sel y)⟩, ?_, hs y⟩
  have : ∀ u : Fin 6, (⟨R u, pay u⟩ : View.Piece (Elt F) s e) ∈ sixth fun u => (⟨R u, pay u⟩ : View.Piece (Elt F) s e) := by
    intro u; fin_cases u <;> simp [sixth]
  exact this (sel y)

theorem canon_putO (f : Fin 6 → FVec F S64x512 .bf16) (L' : List (View.Piece (Elt F) S1x6x64x512 .bf16)) (y : S1x6x64x512.Idx) :
    View.canon (putO f ++ L') y = f (y 1) (ix2 (y 2) (y 3)) := by
  refine canon_sixth rV _ (fun y => f (y 1) (ix2 (y 2) (y 3))) L' (fun y => y 1) (fun u x => ?_) (fun y => ?_) y
  · have hu : (rV u).emb x 1 = u := Fin.ext (by have h := (x 1).isLt; change (x 1).val < 1 at h; show u.val + 1 * (x 1).val = u.val; omega)
    have h2 : (rV u).emb x 2 = x 2 := Fin.ext (by show 0 + 1 * (x 2).val = (x 2).val; omega)
    have h3 : (rV u).emb x 3 = x 3 := Fin.ext (by show 0 + 1 * (x 3).val = (x 3).val; omega)
    rw [hu, h2, h3]; pointwise
  · refine Rect.mem_set_unit.mpr fun a => ?_
    have h0 := (y 0).isLt; have h2 := (y 2).isLt; have h3 := (y 3).isLt
    change (y 0).val < 1 at h0; change (y 2).val < 64 at h2; change (y 3).val < 512 at h3
    fin_cases a <;> simp <;> omega

theorem canon_putSt (f : Fin 6 → FVec F S256x512 .f32) (L' : List (View.Piece (Elt F) S6x256x512 .f32)) (y : S6x256x512.Idx) :
    View.canon (putSt f ++ L') y = (fun y : S6x256x512.Idx => f (y 0) (ix2 (y 1) (y 2))) y := by
  refine canon_sixth rSt _ ((fun y : S6x256x512.Idx => f (y 0) (ix2 (y 1) (y 2)))) L' (fun y => y 0) (fun u x => ?_) (fun y => ?_) y
  · have hu : (rSt u).emb x 0 = u := Fin.ext (by have h := (x 0).isLt; change (x 0).val < 1 at h; show u.val + 1 * (x 0).val = u.val; omega)
    have h1 : (rSt u).emb x 1 = x 1 := Fin.ext (by show 0 + 1 * (x 1).val = (x 1).val; omega)
    have h2 : (rSt u).emb x 2 = x 2 := Fin.ext (by show 0 + 1 * (x 2).val = (x 2).val; omega)
    simp only [hu, h1, h2]
    pointwise
  · refine Rect.mem_set_unit.mpr fun a => ?_
    have h1 := (y 1).isLt; change (y 1).val < 256 at h1
    have h2 := (y 2).isLt; change (y 2).val < 512 at h2
    fin_cases a <;> simp <;> omega

theorem canon_putC (f : Fin 6 → FVec F S64x256 .fp8e4m3) (L' : List (View.Piece (Elt F) S1x6x64x256 .fp8e4m3)) (y : S1x6x64x256.Idx) :
    View.canon (putC f ++ L') y = (fun y : S1x6x64x256.Idx => f (y 1) (ix2 (y 2) (y 3))) y := by
  refine canon_sixth rKQ _ ((fun y : S1x6x64x256.Idx => f (y 1) (ix2 (y 2) (y 3)))) L' (fun y => y 1) (fun u x => ?_) (fun y => ?_) y
  · have hu : (rKQ u).emb x 1 = u := Fin.ext (by have h := (x 1).isLt; change (x 1).val < 1 at h; show u.val + 1 * (x 1).val = u.val; omega)
    have h2 : (rKQ u).emb x 2 = x 2 := Fin.ext (by show 0 + 1 * (x 2).val = (x 2).val; omega)
    have h3 : (rKQ u).emb x 3 = x 3 := Fin.ext (by show 0 + 1 * (x 3).val = (x 3).val; omega)
    simp only [hu, h2, h3]
    pointwise
  · refine Rect.mem_set_unit.mpr fun a => ?_
    have h2 := (y 2).isLt; change (y 2).val < 64 at h2
    have h3 := (y 3).isLt; change (y 3).val < 256 at h3
    have h0 := (y 0).isLt; change (y 0).val < 1 at h0
    fin_cases a <;> simp <;> omega

theorem canon_putS (a : BitVec 32) (f : Fin 6 → FVec F S1x1 .f32) (old : Fin 6 → FVec F S1x1x10 .f32) (L' : List (View.Piece (Elt F) S1x6x10 .f32)) (y : S1x6x10.Idx) :
    View.canon (putS a f old ++ L') y = (fun y : S1x6x10.Idx => setS a (f (y 1)) (old (y 1)) (ix3 0 0 (y 2))) y := by
  refine canon_sixth rS _ ((fun y : S1x6x10.Idx => setS a (f (y 1)) (old (y 1)) (ix3 0 0 (y 2)))) L' (fun y => y 1) (fun u x => ?_) (fun y => ?_) y
  · have hu : (rS u).emb x 1 = u := Fin.ext (by have h := (x 1).isLt; change (x 1).val < 1 at h; show u.val + 1 * (x 1).val = u.val; omega)
    have h2 : (rS u).emb x 2 = x 2 := Fin.ext (by show 0 + 1 * (x 2).val = (x 2).val; omega)
    simp only [hu, h2]
    exact congrArg (setS a (f u) (old u)) (funext fun b => by
      fin_cases b
      · exact Fin.ext (by have h := (x 0).isLt; change (x 0).val < 1 at h; show (x 0).val = 0; omega)
      · exact Fin.ext (by have h := (x 1).isLt; change (x 1).val < 1 at h; show (x 1).val = 0; omega)
      · rfl)
  · refine Rect.mem_set_unit.mpr fun a => ?_
    have h2 := (y 2).isLt; change (y 2).val < 10 at h2
    have h0 := (y 0).isLt; change (y 0).val < 1 at h0
    fin_cases a <;> simp <;> omega

theorem canon_putSf (f : Fin 6 → FVec F S256x512 .f32) (L' : List (View.Piece (Elt F) S1x6x256x512 .fp8e4m3)) (y : S1x6x256x512.Idx) :
    View.canon (putSf f ++ L') y = (fun y : S1x6x256x512.Idx => scodes (f (y 1)) (ix2 (y 2) (y 3))) y := by
  refine canon_sixth rSf _ ((fun y : S1x6x256x512.Idx => scodes (f (y 1)) (ix2 (y 2) (y 3)))) L' (fun y => y 1) (fun u x => ?_) (fun y => ?_) y
  · have hu : (rSf u).emb x 1 = u := Fin.ext (by have h := (x 1).isLt; change (x 1).val < 1 at h; show u.val + 1 * (x 1).val = u.val; omega)
    have h2 : (rSf u).emb x 2 = x 2 := Fin.ext (by show 0 + 1 * (x 2).val = (x 2).val; omega)
    have h3 : (rSf u).emb x 3 = x 3 := Fin.ext (by show 0 + 1 * (x 3).val = (x 3).val; omega)
    simp only [hu, h2, h3]
    pointwise
  · refine Rect.mem_set_unit.mpr fun a => ?_
    have h2 := (y 2).isLt; change (y 2).val < 256 at h2
    have h3 := (y 3).isLt; change (y 3).val < 512 at h3
    have h0 := (y 0).isLt; change (y 0).val < 1 at h0
    fin_cases a <;> simp <;> omega

theorem canon_putSfs (f : Fin 6 → FVec F S256x512 .f32) (L' : List (View.Piece (Elt F) S1x6x512 .f32)) (y : S1x6x512.Idx) :
    View.canon (putSfs f ++ L') y = (fun y : S1x6x512.Idx => scale (smax (f (y 1))) (ix2 0 (y 2))) y := by
  refine canon_sixth rSfs _ ((fun y : S1x6x512.Idx => scale (smax (f (y 1))) (ix2 0 (y 2)))) L' (fun y => y 1) (fun u x => ?_) (fun y => ?_) y
  · have hu : (rSfs u).emb x 1 = u := Fin.ext (by have h := (x 1).isLt; change (x 1).val < 1 at h; show u.val + 1 * (x 1).val = u.val; omega)
    have h2 : (rSfs u).emb x 2 = x 2 := Fin.ext (by show 0 + 1 * (x 2).val = (x 2).val; omega)
    simp only [hu, h2]
    pointwise
  · refine Rect.mem_set_unit.mpr fun a => ?_
    have h2 := (y 2).isLt; change (y 2).val < 512 at h2
    have h0 := (y 0).isLt; change (y 0).val < 1 at h0
    fin_cases a <;> simp <;> omega

/-! ## Loads -/

theorem row_idx {s : Shape} (r : Rect s) (x : r.shape.Idx) (a : Fin s.rank) : (r.toLoadRect.idx x a).val = r.off a + r.stride a * (x a).val := rfl

/-- A list of one store per unit below `n`, the newest first. -/
def below {s : Shape} {e : EltTy} (R : Fin 6 → Rect s) (pay : ∀ u, (R u).shape.Idx → Elt F e) (L : List (View.Piece (Elt F) s e)) :
    ℕ → List (View.Piece (Elt F) s e)
  | 0 => L
  | n + 1 => ⟨R (Fin.ofNat 6 n), pay (Fin.ofNat 6 n)⟩ :: below R pay L n

/-- A unit's load passes over the stores of the units before it. -/
theorem readCov_below {sig' : RefSig} {κ' : Kind} {sp : Space} {s : Shape} {e : EltTy} (v : View sig' κ' sp s e) (R : Fin 6 → Rect s)
    (pay : ∀ u, (R u).shape.Idx → Elt F e) (L : List (View.Piece (Elt F) s e)) (u : Fin 6)
    (hd : ∀ w, w ≠ u → LoadRect.disj (R w) (R u).toLoadRect = true) :
    ∀ n, n ≤ u.val → v.readCov (below R pay L n) (R u).toLoadRect = v.readCov L (R u).toLoadRect
  | 0, _ => rfl
  | n + 1, h => by
    rw [below, View.readCov_skip v _ _ _ _ (hd _ fun e => ?_), readCov_below v R pay L u hd n (by omega)]
    have hu := u.isLt
    have := congrArg Fin.val e
    simp [Fin.ofNat] at this
    omega

theorem disj_rS : ∀ u w : Fin 6, w ≠ u → LoadRect.disj (rS w) (rS u).toLoadRect = true := by decide
theorem disj_rSt : ∀ u w : Fin 6, w ≠ u → LoadRect.disj (rSt w) (rSt u).toLoadRect = true := by decide

variable (c : Dev nD) (i : grid0.Coords) (arg2 : Memref sig .tc .vmem S1x6x64x256 .bf16) (harg2 : arg2.IsWhole) (arg3 : Memref sig .tc .vmem S1x6x64x256 .bf16) (harg3 : arg3.IsWhole) (arg4 : Memref sig .tc .vmem S1x6x64x512 .bf16) (harg4 : arg4.IsWhole) (arg5 : Memref sig .tc .vmem S1x6x640 .f32) (harg5 : arg5.IsWhole) (arg6 : Memref sig .tc .vmem S1x6x640 .f32) (harg6 : arg6.IsWhole)
 (arg7 : Memref sig .tc .vmem S1x6x256x512 .fp8e4m3) (harg7 : arg7.IsWhole) (arg8 : Memref sig .tc .vmem S1x6x512 .f32) (harg8 : arg8.IsWhole) (arg9 : Memref sig .tc .vmem S1x6x64x512 .bf16) (harg9 : arg9.IsWhole) (arg10 : Memref sig .tc .vmem S1x6x256x512 .fp8e4m3) (harg10 : arg10.IsWhole) (arg11 : Memref sig .tc .vmem S1x6x512 .f32) (harg11 : arg11.IsWhole) (arg12 : Memref sig .tc .vmem S1x6x64x256 .fp8e4m3) (harg12 : arg12.IsWhole) (arg13 : Memref sig .tc .vmem S1x6x10 .f32) (harg13 : arg13.IsWhole)
 (arg14 : Memref sig .tc .vmem S1x6x64x256 .fp8e4m3) (harg14 : arg14.IsWhole) (arg15 : Memref sig .tc .vmem S1x6x10 .f32) (harg15 : arg15.IsWhole)
 (arg16 : Memref sig .tc .vmem S6x256x512 .f32) (harg16 : arg16.IsWhole)
    (x0 : Vec F S1x6x64x256 .bf16) (x1 : Vec F S1x6x64x256 .bf16) (x2 : Vec F S1x6x64x512 .bf16) (x3 : Vec F S1x6x640 .f32) (x4 : Vec F S1x6x640 .f32) (x5 : Vec F S1x6x256x512 .fp8e4m3) (x6 : Vec F S1x6x512 .f32) (xo11 : Vec F S1x6x10 .f32) (xo13 : Vec F S1x6x10 .f32) (xs0 : Vec F S6x256x512 .f32)

theorem kU_eq (u : Fin 6) : kU arg3 harg3 x1 u = fun j => x1 (ix4 0 u (j 0) (j 1)) := by
  funext j; unfold kU ldKQ; pointwise; rw [Memref.IsWhole.readAt_unread]; congr 1; funext a; fin_cases a <;> apply Fin.ext <;> simp [row_idx]
theorem qU_eq (u : Fin 6) : qU arg2 harg2 x0 u = fun j => x0 (ix4 0 u (j 0) (j 1)) := kU_eq arg2 harg2 x0 u
theorem vU_eq (u : Fin 6) : vU arg4 harg4 x2 u = fun j => x2 (ix4 0 u (j 0) (j 1)) := by
  funext j; unfold vU ldV; pointwise; rw [Memref.IsWhole.readAt_unread]; congr 1; funext a; fin_cases a <;> apply Fin.ext <;> simp [row_idx]
theorem stU_eq (u : Fin 6) : stU arg16 harg16 xs0 u = fun j => xs0 (ix3 u (j 0) (j 1)) := by
  funext j; unfold stU ldSt; pointwise; rw [Memref.IsWhole.readAt_unread]; congr 1; funext a; fin_cases a <;> apply Fin.ext <;> simp [row_idx]
theorem oldB_eq (u : Fin 6) : oldB arg13 harg13 xo11 u = fun j => xo11 (ix3 0 u (j 2)) := by
  funext j; unfold oldB; rw [Memref.IsWhole.readAt_unread]; congr 1; funext a
  have h0 := (j 0).isLt; have h1 := (j 1).isLt; change (j 0).val < 1 at h0; change (j 1).val < 1 at h1
  fin_cases a <;> apply Fin.ext <;> simp [row_idx] <;> omega
theorem iU_eq (u : Fin 6) : iU arg7 harg7 arg8 harg8 x5 x6 u
    = st0 (fun j => x5 (ix4 0 u (j 2) (j 3))) (fun j => x6 (ix3 0 u (j 2))) := by
  have e1 : sfU arg7 harg7 x5 u = fun j => x5 (ix4 0 u (j 2) (j 3)) := by
    funext j; unfold sfU; rw [Memref.IsWhole.readAt_unread]; congr 1; funext a
    have h0 := (j 0).isLt; have h1 := (j 1).isLt; change (j 0).val < 1 at h0; change (j 1).val < 1 at h1
    fin_cases a <;> apply Fin.ext <;> simp [row_idx] <;> omega
  have e2 : sfsU arg8 harg8 x6 u = fun j => x6 (ix3 0 u (j 2)) := by
    funext j; unfold sfsU; rw [Memref.IsWhole.readAt_unread]; congr 1; funext a
    have h0 := (j 0).isLt; have h1 := (j 1).isLt; change (j 0).val < 1 at h0; change (j 1).val < 1 at h1
    fin_cases a <;> apply Fin.ext <;> simp [row_idx] <;> omega
  unfold iU; rw [e1, e2]

/-- Before a unit's row is set it still holds the fill. -/
theorem fill_row {sig' : RefSig} {κ' : Kind} {sp : Space} (v : View sig' κ' sp S1x6x10 .f32) (pay : ∀ u, (rS u).shape.Idx → Elt F .f32) (u : Fin 6) (n : ℕ)
    (h : n ≤ u.val) : v.readCov (below rS pay fillS n) (rS u).toLoadRect = cst S1x1x10 0x00000000#32 := by
  rw [readCov_below v rS pay fillS u (disj_rS u) n h]
  unfold fillS
  rw [View.readCov_fill v _ _ _ _ (by decide)]
  rfl

theorem oldA11_eq : oldA11 c i arg3 harg3 arg13 x1 = fun _ => cst S1x1x10 0x00000000#32 := by
  have h : ∀ u : Fin 6, oldA11 c i arg3 harg3 arg13 x1 u = arg13.view.readCov
      (below rS (fun w => setS (BitVec.ofNat 32 (i 1).val) (skU (kU arg3 harg3 x1) w) (oldA11 c i arg3 harg3 arg13 x1 w)) fillS u.val) (rS u).toLoadRect := by
    intro u
    fin_cases u
    all_goals sl_kernel_rfl
  funext u; rw [h u, fill_row _ _ u _ le_rfl]

theorem oldA13_eq : oldA13 c i arg2 harg2 arg15 x0 = fun _ => cst S1x1x10 0x00000000#32 := by
  have h : ∀ u : Fin 6, oldA13 c i arg2 harg2 arg15 x0 u = arg15.view.readCov
      (below rS (fun w => setS (BitVec.ofNat 32 (i 1).val) (skU (qU arg2 harg2 x0) w) (oldA13 c i arg2 harg2 arg15 x0 w)) fillS u.val) (rS u).toLoadRect := by
    intro u
    fin_cases u
    all_goals sl_kernel_rfl
  funext u; rw [h u, fill_row _ _ u _ le_rfl]

theorem canon_putSt_at (f : Fin 6 → FVec F S256x512 .f32) (y : S6x256x512.Idx) (u : Fin 6) (a : Fin 256) (b : Fin 512)
    (h0 : y 0 = u) (h1 : y 1 = a) (h2 : y 2 = b) : View.canon (putSt f) y = f u (ix2 a b) := by
  have := canon_putSt f [] y
  rw [List.append_nil] at this
  subst h0 h1 h2
  exact this

/-- A unit's state, read back from a whole set of states. -/
theorem readCov_putSt {sig' : RefSig} {κ' : Kind} {sp : Space} (v : View sig' κ' sp S6x256x512 .f32) (f : Fin 6 → FVec F S256x512 .f32) :
    ldSt (fun u => v.readCov (putSt f) (rSt u).toLoadRect) = f := by
  funext u j
  unfold ldSt; pointwise
  rw [View.readCov_eq_canon']
  refine (canon_putSt_at f _ u (j 0) (j 1) ?_ ?_ ?_).trans (congrArg (f u) (funext fun a => by fin_cases a <;> rfl))
  all_goals exact Fin.ext (by simp [row_idx])

theorem stA_eq : ldSt (stA c i arg2 harg2 arg3 harg3 arg4 harg4 arg5 harg5 arg6 harg6 arg7 harg7 arg8 harg8 arg16 x0 x1 x2 x3 x4 x5 x6) = iU arg7 harg7 arg8 harg8 x5 x6 := by
  have h : ∀ u : Fin 6, stA c i arg2 harg2 arg3 harg3 arg4 harg4 arg5 harg5 arg6 harg6 arg7 harg7 arg8 harg8 arg16 x0 x1 x2 x3 x4 x5 x6 u = arg16.view.readCov
      (below rSt (fun w => shapeCast S1x256x512 (sAll (kU arg3 harg3 x1) (qU arg2 harg2 x0) (vU arg4 harg4 x2) (gU i arg5 harg5 x3) (bU i arg6 harg6 x4)  (ldSt (stA c i arg2 harg2 arg3 harg3 arg4 harg4 arg5 harg5 arg6 harg6 arg7 harg7 arg8 harg8 arg16 x0 x1 x2 x3 x4 x5 x6)) w) (by decide)) (putSt (iU arg7 harg7 arg8 harg8 x5 x6)) u.val)
      (rSt u).toLoadRect := by
    intro u
    fin_cases u
    all_goals sl_kernel_rfl
  have h' : stA c i arg2 harg2 arg3 harg3 arg4 harg4 arg5 harg5 arg6 harg6 arg7 harg7 arg8 harg8 arg16 x0 x1 x2 x3 x4 x5 x6 = fun u => arg16.view.readCov (putSt (iU arg7 harg7 arg8 harg8 x5 x6)) (rSt u).toLoadRect := by
    funext u; rw [h u, readCov_below _ rSt _ _ u (disj_rSt u) _ le_rfl]
  rw [h', readCov_putSt]

end Cert.Body

end
-- ==== Proof.Point.lean ====
/- What one grid point leaves in each of its buffers, over the blocks it is given: one function of the blocks for all three cases of the body. -/
module

public import proofs.«01_k».proof.Proof.Canon

@[expose] public section

set_option maxRecDepth 16384

noncomputable section

namespace Cert.Body

open Idealize.ShloMosaic Cert.KernelIdeal Cert.KernelIdeal.Gen Idealize.SL.Sem

variable {F : FTy → Type} [FloatOps F] [Named F]

/-- A block of keys or queries, by unit. -/
def pK (x : Vec F S1x6x64x256 .bf16) (u : Fin 6) : FVec F S64x256 .bf16 := fun j => x (ix4 0 u (j 0) (j 1))
/-- A block of values, by unit. -/
def pV (x : Vec F S1x6x64x512 .bf16) (u : Fin 6) : FVec F S64x512 .bf16 := fun j => x (ix4 0 u (j 0) (j 1))
/-- Lane `l` of the 128 that chunk `n` lies in. -/
def lane128 (n : Fin 10) (l : Fin 128) : Fin 640 := ⟨128 * (n.val / 2) + l.val, by have := n.isLt; have := l.isLt; omega⟩
/-- The 128 lanes of a batch's gates or step sizes that chunk `n` lies in. -/
def pL (n : Fin 10) (x : Vec F S1x6x640 .f32) : FVec F S1x6x128 .f32 := fun j => x (ix3 0 (j 1) (lane128 n (j 2)))
def pG (n : Fin 10) (x : Vec F S1x6x640 .f32) : FVec F S6x128 .f32 := gG (BitVec.ofNat 32 n.val) (pL n x)
def pB (n : Fin 10) (x : Vec F S1x6x640 .f32) : FVec F S6x128 .f32 := gB (BitVec.ofNat 32 n.val) (pL n x)
/-- A set of states, by unit. -/
def pS (x : Vec F S6x256x512 .f32) (u : Fin 6) : FVec F S256x512 .f32 := fun j => x (ix3 u (j 0) (j 1))
/-- The starting states. -/
def pI (x5 : Vec F S1x6x256x512 .fp8e4m3) (x6 : Vec F S1x6x512 .f32) (u : Fin 6) : FVec F S256x512 .f32 :=
  st0 (fun j => x5 (ix4 0 u (j 2) (j 3))) (fun j => x6 (ix3 0 u (j 2)))

/-- A point's outputs, by unit. -/
def stepO (n : Fin 10) (x0 x1 : Vec F S1x6x64x256 .bf16) (x2 : Vec F S1x6x64x512 .bf16) (x3 x4 : Vec F S1x6x640 .f32)
    (st : Fin 6 → FVec F S256x512 .f32) : Fin 6 → FVec F S64x512 .bf16 :=
  oAll (pK x1) (pK x0) (pV x2) (pG n x3) (pB n x4) st
/-- A point's new states, by unit. -/
def stepS (n : Fin 10) (x0 x1 : Vec F S1x6x64x256 .bf16) (x2 : Vec F S1x6x64x512 .bf16) (x3 x4 : Vec F S1x6x640 .f32)
    (st : Fin 6 → FVec F S256x512 .f32) : Fin 6 → FVec F S256x512 .f32 :=
  sAll (pK x1) (pK x0) (pV x2) (pG n x3) (pB n x4) st

/-- The buffers' contents from the units'. -/
def bO (f : Fin 6 → FVec F S64x512 .bf16) : Vec F S1x6x64x512 .bf16 := fun y => f (y 1) (ix2 (y 2) (y 3))
def bS (f : Fin 6 → FVec F S256x512 .f32) : Vec F S6x256x512 .f32 := fun y => f (y 0) (ix2 (y 1) (y 2))
def bC (x : Vec F S1x6x64x256 .bf16) : Vec F S1x6x64x256 .fp8e4m3 := fun y => codes (pK x (y 1)) (ix2 (y 2) (y 3))
def bR (n : Fin 10) (x : Vec F S1x6x64x256 .bf16) (old : Vec F S1x6x10 .f32) : Vec F S1x6x10 .f32 :=
  fun y => setS (BitVec.ofNat 32 n.val) (scale (amax (pK x (y 1)))) (fun j => old (ix3 0 (y 1) (j 2))) (ix3 0 0 (y 2))
def bSf (f : Fin 6 → FVec F S256x512 .f32) : Vec F S1x6x256x512 .fp8e4m3 := fun y => scodes (f (y 1)) (ix2 (y 2) (y 3))
def bSfs (f : Fin 6 → FVec F S256x512 .f32) : Vec F S1x6x512 .f32 := fun y => scale (smax (f (y 1))) (ix2 0 (y 2))

theorem pS_bS (f : Fin 6 → FVec F S256x512 .f32) : pS (bS f) = f := by
  funext u j; show f u (ix2 (j 0) (j 1)) = f u j; congr 1; funext a; fin_cases a <;> rfl

variable (c : Dev nD) (i : grid0.Coords) (arg2 : Memref sig .tc .vmem S1x6x64x256 .bf16) (harg2 : arg2.IsWhole) (arg3 : Memref sig .tc .vmem S1x6x64x256 .bf16) (harg3 : arg3.IsWhole) (arg4 : Memref sig .tc .vmem S1x6x64x512 .bf16) (harg4 : arg4.IsWhole) (arg5 : Memref sig .tc .vmem S1x6x640 .f32) (harg5 : arg5.IsWhole) (arg6 : Memref sig .tc .vmem S1x6x640 .f32) (harg6 : arg6.IsWhole)
 (arg7 : Memref sig .tc .vmem S1x6x256x512 .fp8e4m3) (harg7 : arg7.IsWhole) (arg8 : Memref sig .tc .vmem S1x6x512 .f32) (harg8 : arg8.IsWhole) (arg9 : Memref sig .tc .vmem S1x6x64x512 .bf16) (harg9 : arg9.IsWhole) (arg10 : Memref sig .tc .vmem S1x6x256x512 .fp8e4m3) (harg10 : arg10.IsWhole) (arg11 : Memref sig .tc .vmem S1x6x512 .f32) (harg11 : arg11.IsWhole) (arg12 : Memref sig .tc .vmem S1x6x64x256 .fp8e4m3) (harg12 : arg12.IsWhole) (arg13 : Memref sig .tc .vmem S1x6x10 .f32) (harg13 : arg13.IsWhole)
 (arg14 : Memref sig .tc .vmem S1x6x64x256 .fp8e4m3) (harg14 : arg14.IsWhole) (arg15 : Memref sig .tc .vmem S1x6x10 .f32) (harg15 : arg15.IsWhole)
 (arg16 : Memref sig .tc .vmem S6x256x512 .f32) (harg16 : arg16.IsWhole)
    (x0 : Vec F S1x6x64x256 .bf16) (x1 : Vec F S1x6x64x256 .bf16) (x2 : Vec F S1x6x64x512 .bf16) (x3 : Vec F S1x6x640 .f32) (x4 : Vec F S1x6x640 .f32) (x5 : Vec F S1x6x256x512 .fp8e4m3) (x6 : Vec F S1x6x512 .f32) (xo11 : Vec F S1x6x10 .f32) (xo13 : Vec F S1x6x10 .f32) (xs0 : Vec F S6x256x512 .f32)

theorem off1 : k0_off1 i = ![0, 0, 128 * ((i 1).val / 2)] := by
  unfold k0_off1
  dsimp only
  generalize i 1 = n
  revert n
  decide +kernel

theorem load128 (arg : Memref sig .tc .vmem S1x6x640 .f32) (harg : arg.IsWhole) (x : Vec F S1x6x640 .f32) :
    View.readAt (Elt F) arg.view (Rect.unit (s := S1x6x640) (k0_off1 i) S1x6x128.size (k0_off1_inb i)).toLoadRect (harg.unread x) = pL (i 1) x := by
  funext j; rw [Memref.IsWhole.readAt_unread]; unfold pL; congr 1; funext a
  have h0 := (j 0).isLt; change (j 0).val < 1 at h0
  fin_cases a <;> apply Fin.ext <;> simp [row_idx, off1, lane128]
  all_goals omega

theorem kqv_eq : kU arg3 harg3 x1 = pK x1 ∧ qU arg2 harg2 x0 = pK x0 ∧ vU arg4 harg4 x2 = pV x2 ∧ gU i arg5 harg5 x3 = pG (i 1) x3
    ∧ bU i arg6 harg6 x4 = pB (i 1) x4 :=
  ⟨funext fun u => kU_eq arg3 harg3 x1 u, funext fun u => qU_eq arg2 harg2 x0 u, funext fun u => vU_eq arg4 harg4 x2 u,
    congrArg (gG _) (load128 i arg5 harg5 x3), congrArg (gB _) (load128 i arg6 harg6 x4)⟩

theorem out0_A_7_eq (h0 : _) (h1 : _) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6
      = bO (stepO (i 1) x0 x1 x2 x3 x4 (pI x5 x6)) := by
  obtain ⟨hk, hq, hv, hg, hb⟩ := kqv_eq i arg2 harg2 arg3 harg3 arg4 harg4 arg5 harg5 arg6 harg6 x0 x1 x2 x3 x4
  unfold out0_A_7; rw [View.read_writes_junk_eq_canon, pieces_A_7, stA_eq, hk, hq, hv, hg, hb]
  rw [show iU arg7 harg7 arg8 harg8 x5 x6 = pI x5 x6 from funext fun u => iU_eq arg7 harg7 arg8 harg8 x5 x6 u]
  exact funext fun y => (congrArg (fun l => View.canon l y) (List.append_nil _).symm).trans (canon_putO _ [] y)

theorem out0_A_10_eq (h0 : _) (h1 : _) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6
      = bC x1 := by
  unfold out0_A_10; rw [View.read_writes_junk_eq_canon, pieces_A_10]
  rw [show kU arg3 harg3 x1 = pK x1 from funext fun u => kU_eq arg3 harg3 x1 u]
  exact funext fun y => (congrArg (fun l => View.canon l y) (List.append_nil _).symm).trans (canon_putC _ [] y)

theorem out0_A_11_eq (h0 : _) (h1 : _) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6
      = bR (i 1) x1 (fun _ => Scalar.ofBits .f32 0x00000000#32) := by
  unfold out0_A_11; rw [View.read_writes_junk_eq_canon, pieces_A_11, oldA11_eq]
  rw [show kU arg3 harg3 x1 = pK x1 from funext fun u => kU_eq arg3 harg3 x1 u]
  exact funext fun y => canon_putS _ _ _ _ y

theorem out0_A_12_eq (h0 : _) (h1 : _) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6
      = bC x0 := by
  unfold out0_A_12; rw [View.read_writes_junk_eq_canon, pieces_A_12]
  rw [show qU arg2 harg2 x0 = pK x0 from funext fun u => qU_eq arg2 harg2 x0 u]
  exact funext fun y => (congrArg (fun l => View.canon l y) (List.append_nil _).symm).trans (canon_putC _ [] y)

theorem out0_A_13_eq (h0 : _) (h1 : _) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6
      = bR (i 1) x0 (fun _ => Scalar.ofBits .f32 0x00000000#32) := by
  unfold out0_A_13; rw [View.read_writes_junk_eq_canon, pieces_A_13, oldA13_eq]
  rw [show qU arg2 harg2 x0 = pK x0 from funext fun u => qU_eq arg2 harg2 x0 u]
  exact funext fun y => canon_putS _ _ _ _ y

theorem sout0_A_0_eq (h0 : _) (h1 : _) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6
      = bS (stepS (i 1) x0 x1 x2 x3 x4 (pI x5 x6)) := by
  obtain ⟨hk, hq, hv, hg, hb⟩ := kqv_eq i arg2 harg2 arg3 harg3 arg4 harg4 arg5 harg5 arg6 harg6 x0 x1 x2 x3 x4
  unfold sout0_A_0; rw [View.read_writes_junk_eq_canon, pieces_A_14, stA_eq, hk, hq, hv, hg, hb]
  rw [show iU arg7 harg7 arg8 harg8 x5 x6 = pI x5 x6 from funext fun u => iU_eq arg7 harg7 arg8 harg8 x5 x6 u]
  exact funext fun y => canon_putSt _ _ y

theorem out0_B_7_eq (h0 : _) (h1 : _) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bO (stepO (i 1) x0 x1 x2 x3 x4 (pS xs0)) := by
  obtain ⟨hk, hq, hv, hg, hb⟩ := kqv_eq i arg2 harg2 arg3 harg3 arg4 harg4 arg5 harg5 arg6 harg6 x0 x1 x2 x3 x4
  unfold out0_B_7; rw [View.read_writes_junk_eq_canon, pieces_B_7, hk, hq, hv, hg, hb]
  rw [show stU arg16 harg16 xs0 = pS xs0 from funext fun u => stU_eq arg16 harg16 xs0 u]
  exact funext fun y => (congrArg (fun l => View.canon l y) (List.append_nil _).symm).trans (canon_putO _ [] y)

theorem out0_B_10_eq (h0 : _) (h1 : _) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bC x1 := by
  unfold out0_B_10; rw [View.read_writes_junk_eq_canon, pieces_B_10]
  rw [show kU arg3 harg3 x1 = pK x1 from funext fun u => kU_eq arg3 harg3 x1 u]
  exact funext fun y => (congrArg (fun l => View.canon l y) (List.append_nil _).symm).trans (canon_putC _ [] y)

theorem out0_B_11_eq (h0 : _) (h1 : _) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bR (i 1) x1 xo11 := by
  unfold out0_B_11; rw [View.read_writes_junk_eq_canon, pieces_B_11]
  rw [show kU arg3 harg3 x1 = pK x1 from funext fun u => kU_eq arg3 harg3 x1 u]
  rw [show oldB arg13 harg13 xo11 = _ from funext fun u => oldB_eq arg13 harg13 xo11 u]
  exact funext fun y => (congrArg (fun l => View.canon l y) (List.append_nil _).symm).trans (canon_putS _ _ _ [] y)

theorem out0_B_12_eq (h0 : _) (h1 : _) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bC x0 := by
  unfold out0_B_12; rw [View.read_writes_junk_eq_canon, pieces_B_12]
  rw [show qU arg2 harg2 x0 = pK x0 from funext fun u => qU_eq arg2 harg2 x0 u]
  exact funext fun y => (congrArg (fun l => View.canon l y) (List.append_nil _).symm).trans (canon_putC _ [] y)

theorem out0_B_13_eq (h0 : _) (h1 : _) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bR (i 1) x0 xo13 := by
  unfold out0_B_13; rw [View.read_writes_junk_eq_canon, pieces_B_13]
  rw [show qU arg2 harg2 x0 = pK x0 from funext fun u => qU_eq arg2 harg2 x0 u]
  rw [show oldB arg15 harg15 xo13 = _ from funext fun u => oldB_eq arg15 harg15 xo13 u]
  exact funext fun y => (congrArg (fun l => View.canon l y) (List.append_nil _).symm).trans (canon_putS _ _ _ [] y)

theorem sout0_B_0_eq (h0 : _) (h1 : _) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bS (stepS (i 1) x0 x1 x2 x3 x4 (pS xs0)) := by
  obtain ⟨hk, hq, hv, hg, hb⟩ := kqv_eq i arg2 harg2 arg3 harg3 arg4 harg4 arg5 harg5 arg6 harg6 x0 x1 x2 x3 x4
  unfold sout0_B_0; rw [View.read_writes_junk_eq_canon, pieces_B_14, hk, hq, hv, hg, hb]
  rw [show stU arg16 harg16 xs0 = pS xs0 from funext fun u => stU_eq arg16 harg16 xs0 u]
  exact funext fun y => (congrArg (fun l => View.canon l y) (List.append_nil _).symm).trans (canon_putSt _ [] y)

theorem out0_C_7_eq (h0 : _) (h1 : _) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bO (stepO (i 1) x0 x1 x2 x3 x4 (pS xs0)) := by
  obtain ⟨hk, hq, hv, hg, hb⟩ := kqv_eq i arg2 harg2 arg3 harg3 arg4 harg4 arg5 harg5 arg6 harg6 x0 x1 x2 x3 x4
  unfold out0_C_7; rw [View.read_writes_junk_eq_canon, pieces_C_7, hk, hq, hv, hg, hb]
  rw [show stU arg16 harg16 xs0 = pS xs0 from funext fun u => stU_eq arg16 harg16 xs0 u]
  exact funext fun y => (congrArg (fun l => View.canon l y) (List.append_nil _).symm).trans (canon_putO _ [] y)

theorem out0_C_8_eq (h0 : _) (h1 : _) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bSf (stepS (i 1) x0 x1 x2 x3 x4 (pS xs0)) := by
  obtain ⟨hk, hq, hv, hg, hb⟩ := kqv_eq i arg2 harg2 arg3 harg3 arg4 harg4 arg5 harg5 arg6 harg6 x0 x1 x2 x3 x4
  unfold out0_C_8; rw [View.read_writes_junk_eq_canon, pieces_C_8]
  unfold stC; rw [readCov_putSt, hk, hq, hv, hg, hb, show stU arg16 harg16 xs0 = pS xs0 from funext fun u => stU_eq arg16 harg16 xs0 u]
  exact funext fun y => (congrArg (fun l => View.canon l y) (List.append_nil _).symm).trans (canon_putSf _ [] y)

theorem out0_C_9_eq (h0 : _) (h1 : _) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bSfs (stepS (i 1) x0 x1 x2 x3 x4 (pS xs0)) := by
  obtain ⟨hk, hq, hv, hg, hb⟩ := kqv_eq i arg2 harg2 arg3 harg3 arg4 harg4 arg5 harg5 arg6 harg6 x0 x1 x2 x3 x4
  unfold out0_C_9; rw [View.read_writes_junk_eq_canon, pieces_C_9]
  unfold stC; rw [readCov_putSt, hk, hq, hv, hg, hb, show stU arg16 harg16 xs0 = pS xs0 from funext fun u => stU_eq arg16 harg16 xs0 u]
  exact funext fun y => (congrArg (fun l => View.canon l y) (List.append_nil _).symm).trans (canon_putSfs _ [] y)

theorem out0_C_10_eq (h0 : _) (h1 : _) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bC x1 := by
  unfold out0_C_10; rw [View.read_writes_junk_eq_canon, pieces_C_10]
  rw [show kU arg3 harg3 x1 = pK x1 from funext fun u => kU_eq arg3 harg3 x1 u]
  exact funext fun y => (congrArg (fun l => View.canon l y) (List.append_nil _).symm).trans (canon_putC _ [] y)

theorem out0_C_11_eq (h0 : _) (h1 : _) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bR (i 1) x1 xo11 := by
  unfold out0_C_11; rw [View.read_writes_junk_eq_canon, pieces_C_11]
  rw [show kU arg3 harg3 x1 = pK x1 from funext fun u => kU_eq arg3 harg3 x1 u]
  rw [show oldB arg13 harg13 xo11 = _ from funext fun u => oldB_eq arg13 harg13 xo11 u]
  exact funext fun y => (congrArg (fun l => View.canon l y) (List.append_nil _).symm).trans (canon_putS _ _ _ [] y)

theorem out0_C_12_eq (h0 : _) (h1 : _) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bC x0 := by
  unfold out0_C_12; rw [View.read_writes_junk_eq_canon, pieces_C_12]
  rw [show qU arg2 harg2 x0 = pK x0 from funext fun u => qU_eq arg2 harg2 x0 u]
  exact funext fun y => (congrArg (fun l => View.canon l y) (List.append_nil _).symm).trans (canon_putC _ [] y)

theorem out0_C_13_eq (h0 : _) (h1 : _) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bR (i 1) x0 xo13 := by
  unfold out0_C_13; rw [View.read_writes_junk_eq_canon, pieces_C_13]
  rw [show qU arg2 harg2 x0 = pK x0 from funext fun u => qU_eq arg2 harg2 x0 u]
  rw [show oldB arg15 harg15 xo13 = _ from funext fun u => oldB_eq arg15 harg15 xo13 u]
  exact funext fun y => (congrArg (fun l => View.canon l y) (List.append_nil _).symm).trans (canon_putS _ _ _ [] y)

theorem sout0_C_0_eq (h0 : _) (h1 : _) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 x0 x1 x2 x3 x4 x5 x6 xo11 xo13 xs0
      = bS (stepS (i 1) x0 x1 x2 x3 x4 (pS xs0)) := by
  obtain ⟨hk, hq, hv, hg, hb⟩ := kqv_eq i arg2 harg2 arg3 harg3 arg4 harg4 arg5 harg5 arg6 harg6 x0 x1 x2 x3 x4
  unfold sout0_C_0; rw [View.read_writes_junk_eq_canon, pieces_C_14, hk, hq, hv, hg, hb]
  rw [show stU arg16 harg16 xs0 = pS xs0 from funext fun u => stU_eq arg16 harg16 xs0 u]
  exact funext fun y => (congrArg (fun l => View.canon l y) (List.append_nil _).symm).trans (canon_putSt _ [] y)

end Cert.Body

end
-- ==== Proof.Quant.lean ====
/- The power-of-two quantiser over the extended reals: the ladder's scale is two to the clipped exponent. -/
module

public import proofs.«01_k».proof.Proof.Point
public import Idealize.ShloMosaic.Lib.Pointwise
public import Mathlib.Analysis.SpecialFunctions.Log.Basic

@[expose] public section

set_option maxRecDepth 16384

noncomputable section

namespace Cert.Body

open Idealize.ShloMosaic Cert.KernelIdeal

/-- The exponent of the scale of a quotient `t`: one above the floor of its binary logarithm, within the range, and 0 for 0. -/
def qexp (t : ℝ) : ℤ := if t = 0 then 0 else min 129 (max (-126) (⌊Real.log t / Real.log 2⌋ + 1))
/-- The scale of a quotient. -/
def qsc (t : ℝ) : ℝ := (2 : ℝ) ^ qexp t

theorem qsc_pos (t : ℝ) : 0 < qsc t := zpow_pos (by norm_num) _

/-- One rung on exponents. -/
def ladStep (d e a : ℤ) : ℤ := if a + d ≤ e then a + d else a

theorem lad_end (e : ℤ) : ladStep 1 e (ladStep 2 e (ladStep 4 e (ladStep 8 e (ladStep 16 e (ladStep 32 e (ladStep 64 e (ladStep 128 e (-126)))))))) = min 129 (max (-126) e) := by
  have h : ∀ (d a : ℤ), 0 < d → (-126 ≤ a ∧ a + 2*d - 1 ≤ 129 ∧ (a = -126 ∨ a ≤ e) ∧ (e ≤ a + 2*d - 1 ∨ a + 2*d - 1 = 129)) →
     (-126 ≤ ladStep d e a ∧ ladStep d e a + d - 1 ≤ 129 ∧ (ladStep d e a = -126 ∨ ladStep d e a ≤ e) ∧ (e ≤ ladStep d e a + d - 1 ∨ ladStep d e a + d - 1 = 129)) := by
    intro d a hd h; unfold ladStep; split_ifs <;> omega
  have h1 := h 128 (-126) (by omega) (by omega)
  have h2 := h 64 _ (by omega) h1
  have h3 := h 32 _ (by omega) h2
  have h4 := h 16 _ (by omega) h3
  have h5 := h 8 _ (by omega) h4
  have h6 := h 4 _ (by omega) h5
  have h7 := h 2 _ (by omega) h6
  have h8 := h 1 _ (by omega) h7
  omega

theorem two_zpow_le_iff {t : ℝ} (ht : 0 < t) (m : ℤ) : (2 : ℝ) ^ m ≤ t ↔ m ≤ ⌊Real.log t / Real.log 2⌋ := by
  have h2 : 0 < Real.log 2 := Real.log_pos (by norm_num)
  rw [Int.le_floor, le_div_iff₀ h2, ← Real.log_zpow, Real.log_le_log_iff (zpow_pos (by norm_num) m) ht]

/-- One rung where the running value is a power of two, `c` the power its test multiplies by and `f` its factor's exponent. -/
theorem rung_apply {s : Shape} (t x y : FVec Ideal s .f32) (hb fb gb : BitVec 32) (j : s.Idx) (tr : ℝ) (a b d f g : ℤ) (ht : 0 < tr)
    (h1 : t j = (tr : EReal)) (h2 : x j = (((2 : ℝ) ^ a : ℝ) : EReal)) (h3 : y j = (((2 : ℝ) ^ b : ℝ) : EReal))
    (hh : Ideal.ofBits .f32 hb = (((2 : ℝ) ^ (d - 1) : ℝ) : EReal)) (hf : Ideal.ofBits .f32 fb = (((2 : ℝ) ^ f : ℝ) : EReal))
    (hg : Ideal.ofBits .f32 gb = (((2 : ℝ) ^ g : ℝ) : EReal)) :
    rung (up t x hb) fb gb y j
      = (((2 : ℝ) ^ (if a + d ≤ ⌊Real.log tr / Real.log 2⌋ + 1 then b + f + g else b) : ℝ) : EReal) := by
  have e : (2 : ℝ) ^ a * 2 ^ (d - 1) ≤ tr ↔ a + d ≤ ⌊Real.log tr / Real.log 2⌋ + 1 := by
    rw [← zpow_add₀ (by norm_num), two_zpow_le_iff ht]; omega
  unfold rung up cst
  pointwise
  rw [h1, h2, h3, hh, hf, hg, ← EReal.coe_mul, ← EReal.coe_mul, ← EReal.coe_mul]
  by_cases c : a + d ≤ ⌊Real.log tr / Real.log 2⌋ + 1
  · rw [if_pos (EReal.coe_le_coe_iff.mpr (e.mpr c)), if_pos c, ← zpow_add₀ (by norm_num), ← zpow_add₀ (by norm_num)]
  · rw [if_neg (fun h => c (e.mp (EReal.coe_le_coe_iff.mp h))), if_neg c]

/-- A literal that is a power of two. -/
theorem lit_pow2 (b : BitVec 32) (e : ℤ) (hn : (b.extractLsb' 31 1 == 1#1) = false) (hf : (b.extractLsb' 0 23).toNat = 0)
    (h1 : (b.extractLsb' 23 8).toNat ≠ 255) (h0 : (b.extractLsb' 23 8).toNat ≠ 0) (he : ((b.extractLsb' 23 8).toNat : ℤ) = e + 127) :
    Ideal.ofBits .f32 b = (((2 : ℝ) ^ e : ℝ) : EReal) := by
  show Ideal.ieee 8 23 b = _
  unfold Ideal.ieee
  simp only [hn, hf, h1, h0, he, Nat.reducePow, Nat.reduceSub, Nat.reduceAdd, if_false, Bool.false_eq_true]
  congr 1
  have : (2 : ℝ) ^ (e + 127 - (2 ^ (8 - 1) - 1) - (23 : ℕ) : ℤ) = (2 : ℝ) ^ e * (2 : ℝ) ^ (-23 : ℤ) := by
    rw [← zpow_add₀ (by norm_num)]; congr 1; norm_num; ring
  push_cast at this ⊢
  rw [this]; norm_num; ring

/-- The scale's running value after the rungs, and its reciprocal's. -/
theorem sc8_apply {s : Shape} (t : FVec Ideal s .f32) (j : s.Idx) (tr : ℝ) (ht : 0 < tr) (h1 : t j = (tr : EReal)) :
    sc8 t j = (((2 : ℝ) ^ (min 129 (max (-126) (⌊Real.log tr / Real.log 2⌋ + 1))) : ℝ) : EReal)
      ∧ iv8 t j = (((2 : ℝ) ^ (-(min 129 (max (-126) (⌊Real.log tr / Real.log 2⌋ + 1)))) : ℝ) : EReal) := by
  rw [← lad_end]
  generalize he : ⌊Real.log tr / Real.log 2⌋ + 1 = e
  have step : ∀ (x y : FVec Ideal s .f32) (a d f : ℤ) (hb fb gb fb' gb' : BitVec 32),
      x j = (((2 : ℝ) ^ a : ℝ) : EReal) ∧ y j = (((2 : ℝ) ^ (-a) : ℝ) : EReal) →
      Ideal.ofBits .f32 hb = (((2 : ℝ) ^ (d - 1) : ℝ) : EReal) →
      Ideal.ofBits .f32 fb = (((2 : ℝ) ^ f : ℝ) : EReal) → Ideal.ofBits .f32 gb = (((2 : ℝ) ^ (d - f) : ℝ) : EReal) →
      Ideal.ofBits .f32 fb' = (((2 : ℝ) ^ (-f) : ℝ) : EReal) → Ideal.ofBits .f32 gb' = (((2 : ℝ) ^ (-(d - f)) : ℝ) : EReal) →
      rung (up t x hb) fb gb x j = (((2 : ℝ) ^ ladStep d e a : ℝ) : EReal)
        ∧ rung (up t x hb) fb' gb' y j = (((2 : ℝ) ^ (-(ladStep d e a)) : ℝ) : EReal) := by
    intro x y a d f hb fb gb fb' gb' h hh hf hg hf' hg'
    rw [rung_apply t x x hb fb gb j tr a a d f (d - f) ht h1 h.1 h.1 hh hf hg,
      rung_apply t x y hb fb' gb' j tr a (-a) d (-f) (-(d - f)) ht h1 h.1 h.2 hh hf' hg', he]
    unfold ladStep
    constructor <;> congr 2 <;> split_ifs <;> ring
  have s0 : sc0 (F := Ideal) s j = (((2 : ℝ) ^ (-126 : ℤ) : ℝ) : EReal) ∧ iv0 (F := Ideal) s j = (((2 : ℝ) ^ (-(-126) : ℤ) : ℝ) : EReal) :=
    ⟨show Ideal.ofBits .f32 0x00800000#32 = _ from lit_pow2 0x00800000#32 _ rfl rfl (by decide) (by decide) rfl,
     show Ideal.ofBits .f32 0x7E800000#32 = _ from lit_pow2 0x7E800000#32 _ rfl rfl (by decide) (by decide) rfl⟩
  have lit := lit_pow2
  have s1 := step _ _ _ 128 64 0x7F000000#32 0x5F800000#32 0x5F800000#32 0x1F800000#32 0x1F800000#32 s0 (lit _ _ rfl rfl (by decide) (by decide) rfl) (lit _ _ rfl rfl (by decide) (by decide) rfl) (lit _ _ rfl rfl (by decide) (by decide) rfl) (lit _ _ rfl rfl (by decide) (by decide) rfl) (lit _ _ rfl rfl (by decide) (by decide) rfl)
  have s2 := step _ _ _ 64 32 0x5F000000#32 0x4F800000#32 0x4F800000#32 0x2F800000#32 0x2F800000#32 s1 (lit _ _ rfl rfl (by decide) (by decide) rfl) (lit _ _ rfl rfl (by decide) (by decide) rfl) (lit _ _ rfl rfl (by decide) (by decide) rfl) (lit _ _ rfl rfl (by decide) (by decide) rfl) (lit _ _ rfl rfl (by decide) (by decide) rfl)
  have s3 := step _ _ _ 32 16 0x4F000000#32 0x47800000#32 0x47800000#32 0x37800000#32 0x37800000#32 s2 (lit _ _ rfl rfl (by decide) (by decide) rfl) (lit _ _ rfl rfl (by decide) (by decide) rfl) (lit _ _ rfl rfl (by decide) (by decide) rfl) (lit _ _ rfl rfl (by decide) (by decide) rfl) (lit _ _ rfl rfl (by decide) (by decide) rfl)
  have s4 := step _ _ _ 16 8 0x47000000#32 0x43800000#32 0x43800000#32 0x3B800000#32 0x3B800000#32 s3 (lit _ _ rfl rfl (by decide) (by decide) rfl) (lit _ _ rfl rfl (by decide) (by decide) rfl) (lit _ _ rfl rfl (by decide) (by decide) rfl) (lit _ _ rfl rfl (by decide) (by decide) rfl) (lit _ _ rfl rfl (by decide) (by decide) rfl)
  have s5 := step _ _ _ 8 4 0x43000000#32 0x41800000#32 0x41800000#32 0x3D800000#32 0x3D800000#32 s4 (lit _ _ rfl rfl (by decide) (by decide) rfl) (lit _ _ rfl rfl (by decide) (by decide) rfl) (lit _ _ rfl rfl (by decide) (by decide) rfl) (lit _ _ rfl rfl (by decide) (by decide) rfl) (lit _ _ rfl rfl (by decide) (by decide) rfl)
  have s6 := step _ _ _ 4 2 0x41000000#32 0x40800000#32 0x40800000#32 0x3E800000#32 0x3E800000#32 s5 (lit _ _ rfl rfl (by decide) (by decide) rfl) (lit _ _ rfl rfl (by decide) (by decide) rfl) (lit _ _ rfl rfl (by decide) (by decide) rfl) (lit _ _ rfl rfl (by decide) (by decide) rfl) (lit _ _ rfl rfl (by decide) (by decide) rfl)
  have s7 := step _ _ _ 2 1 0x40000000#32 0x40000000#32 0x40000000#32 0x3F000000#32 0x3F000000#32 s6 (lit _ _ rfl rfl (by decide) (by decide) rfl) (lit _ _ rfl rfl (by decide) (by decide) rfl) (lit _ _ rfl rfl (by decide) (by decide) rfl) (lit _ _ rfl rfl (by decide) (by decide) rfl) (lit _ _ rfl rfl (by decide) (by decide) rfl)
  exact step _ _ _ 1 0 0x3F800000#32 0x3F800000#32 0x40000000#32 0x3F800000#32 0x3F000000#32 s7 (lit _ _ rfl rfl (by decide) (by decide) rfl) (lit _ _ rfl rfl (by decide) (by decide) rfl) (lit _ _ rfl rfl (by decide) (by decide) rfl) (lit _ _ rfl rfl (by decide) (by decide) rfl) (lit _ _ rfl rfl (by decide) (by decide) rfl)

/-- The ladder's scale of a quotient that is zero or more. -/
theorem scale_apply {s : Shape} (t : FVec Ideal s .f32) (j : s.Idx) (tr : ℝ) (ht : 0 ≤ tr) (h1 : t j = (tr : EReal)) :
    scale t j = ((qsc tr : ℝ) : EReal) := by
  unfold scale cst
  pointwise
  rcases ht.eq_or_lt with h | h
  · subst h; rw [h1]; simp [qsc, qexp]
  · rw [h1, if_neg (by exact_mod_cast h.ne'), (sc8_apply t j tr h h1).1, qsc, qexp, if_neg h.ne']

/-- The ladder's reciprocal. -/
theorem inv_apply {s : Shape} (t : FVec Ideal s .f32) (j : s.Idx) (tr : ℝ) (ht : 0 ≤ tr) (h1 : t j = (tr : EReal)) :
    inv t j = (((qsc tr)⁻¹ : ℝ) : EReal) := by
  unfold inv cst
  pointwise
  rcases ht.eq_or_lt with h | h
  · subst h; rw [h1]; simp [qsc, qexp]
  · rw [h1, if_neg (by exact_mod_cast h.ne'), (sc8_apply t j tr h h1).2, qsc, qexp, if_neg h.ne', zpow_neg]

end Cert.Body

end
-- ==== Proof.Real.lean ====
/- The linear algebra of one chunk over the reals: forward substitution inverts a unit lower triangular block, two blocks
   make the solve, and a nilpotent matrix's doubling series inverts one plus it. -/
module

public import Mathlib.LinearAlgebra.Matrix.NonsingularInverse
public import Mathlib.LinearAlgebra.Matrix.Block
public import Mathlib.Data.Real.Basic
public import Mathlib.Tactic.Ring
public import Mathlib.Tactic.Linarith
public import Mathlib.Algebra.BigOperators.Fin

@[expose] public section

noncomputable section

namespace Cert.Body

open Matrix

/-- Column by column, 31 substitution steps leave the inverse of one plus a strictly lower triangular 32 by 32 matrix. -/
theorem fs_real (L : Fin 32 → Fin 32 → ℝ) (hL : ∀ r s, r ≤ s → L r s = 0) (T : ℕ → Fin 32 → ℝ) (c : Fin 32)
    (h0 : ∀ r, T 0 r = if r = c then 1 else 0)
    (hs : ∀ (j : ℕ) (hj : j < 31) (r : Fin 32), T (j + 1) r = T j r - L r ⟨j, by omega⟩ * T j ⟨j, by omega⟩) (r : Fin 32) :
    T 31 r + ∑ s, L r s * T 31 s = if r = c then 1 else 0 := by
  have hc : ∀ n, n ≤ 31 → ∀ r : Fin 32, r.val ≤ n → T n r = T r.val r := by
    intro n
    induction n with
    | zero => intro _ r hr; have : r.val = 0 := by omega
              rw [this]
    | succ n ih =>
      intro hn r hr
      by_cases h : r.val = n + 1
      · rw [h]
      · rw [hs n (by omega) r, hL r ⟨n, by omega⟩ (by show r.val ≤ n; omega), zero_mul, sub_zero, ih (by omega) r (by omega)]
  have hn : ∀ n, n ≤ 31 → ∀ r : Fin 32, T n r = (if r = c then 1 else 0) - ∑ s : Fin 32, if s.val < n then L r s * T s.val s else 0 := by
    intro n
    induction n with
    | zero => intro _ r; simp [h0]
    | succ n ih =>
      intro hn r
      rw [hs n (by omega) r, ih (by omega) r]
      have : (∑ s : Fin 32, if s.val < n + 1 then L r s * T s.val s else 0)
          = (∑ s : Fin 32, if s.val < n then L r s * T s.val s else 0) + L r ⟨n, by omega⟩ * T n ⟨n, by omega⟩ := by
        have e : L r ⟨n, by omega⟩ * T n ⟨n, by omega⟩ = ∑ s : Fin 32, if s = ⟨n, by omega⟩ then L r s * T s.val s else 0 := by
          rw [Finset.sum_ite_eq', if_pos (Finset.mem_univ _)]
        rw [e, ← Finset.sum_add_distrib]
        refine Finset.sum_congr rfl fun s _ => ?_
        by_cases h1 : s.val < n
        · rw [if_pos h1, if_pos (by omega), if_neg (fun h => by rw [h] at h1; exact lt_irrefl _ h1), add_zero]
        · by_cases h2 : s = ⟨n, by omega⟩
          · rw [if_neg h1, if_pos h2, if_pos (by rw [h2]; exact Nat.lt_succ_self n), zero_add]
          · rw [if_neg h1, if_neg h2, if_neg (fun h => h2 (Fin.ext (by show s.val = n; omega))), zero_add]
      rw [this]; ring
  rw [hn 31 le_rfl r]
  have : (∑ s : Fin 32, if s.val < 31 then L r s * T s.val s else 0) = ∑ s, L r s * ((if s = c then 1 else 0) - ∑ q : Fin 32, if q.val < 31 then L s q * T q.val q else 0) := by
    refine Finset.sum_congr rfl fun s _ => ?_
    rw [← hn 31 le_rfl s, hc 31 le_rfl s (by omega)]
    by_cases h : s.val < 31
    · rw [if_pos h]
    · rw [if_neg h, hL r s (by show r.val ≤ s.val; omega), zero_mul]
  rw [this]
  have e2 : ∀ s, T 31 s = (if s = c then 1 else 0) - ∑ q : Fin 32, if q.val < 31 then L s q * T q.val q else 0 := hn 31 le_rfl
  simp only [← e2]
  ring

/-- The lower and the upper half of 64. -/
def loF (i : Fin 32) : Fin 64 := ⟨i.val, by omega⟩
def hiF (i : Fin 32) : Fin 64 := ⟨32 + i.val, by omega⟩

theorem sum_halves (f : Fin 64 → ℝ) : ∑ i, f i = (∑ i, f (loF i)) + ∑ i, f (hiF i) :=
  Fin.sum_univ_add (a := 32) (b := 32) f

/-- A right inverse of one plus a block is a left inverse: the transposed solve with it. -/
theorem tsolve (B T : Fin 32 → Fin 32 → ℝ) (hT : ∀ r c, T r c + ∑ s, B r s * T s c = if r = c then 1 else 0)
    (x y : Fin 32 → ℝ) (hy : ∀ r, y r = ∑ s, T s r * x s) (j : Fin 32) : y j + ∑ i, B i j * y i = x j := by
  have h1 : (1 + Matrix.of B) * Matrix.of T = 1 := by
    ext r c
    rw [add_mul, one_mul, Matrix.add_apply, Matrix.mul_apply, Matrix.one_apply]
    exact hT r c
  have h2 := mul_eq_one_comm.mp h1
  have hy' : y = x ᵥ* Matrix.of T := by
    funext r; rw [hy r]; exact Finset.sum_congr rfl fun s _ => mul_comm _ _
  have h3 : y ᵥ* (1 + Matrix.of B) = x := by rw [hy', Matrix.vecMul_vecMul, h2, Matrix.vecMul_one]
  have h4 := congrFun h3 j
  rw [Matrix.vecMul_add, Matrix.vecMul_one, Pi.add_apply] at h4
  rw [← h4]; congr 1
  exact Finset.sum_congr rfl fun s _ => mul_comm _ _

/-- The two blocks' solves make the transposed solve of one plus a strictly lower triangular 64 by 64 matrix. -/
theorem solve64 (A : Fin 64 → Fin 64 → ℝ) (hA : ∀ i j, i ≤ j → A i j = 0) (T1 T2 : Fin 32 → Fin 32 → ℝ)
    (h1 : ∀ r c, T1 r c + ∑ s, A (loF r) (loF s) * T1 s c = if r = c then 1 else 0)
    (h2 : ∀ r c, T2 r c + ∑ s, A (hiF r) (hiF s) * T2 s c = if r = c then 1 else 0)
    (z y : Fin 64 → ℝ) (hy2 : ∀ r, y (hiF r) = ∑ s, T2 s r * z (hiF s))
    (hy1 : ∀ r, y (loF r) = ∑ s, T1 s r * (z (loF s) - ∑ q, A (hiF q) (loF s) * y (hiF q))) (j : Fin 64) :
    y j + ∑ i, A i j * y i = z j := by
  rw [sum_halves]
  by_cases h : j.val < 32
  · obtain ⟨k, rfl⟩ : ∃ k, j = loF k := ⟨⟨j.val, h⟩, rfl⟩
    have := tsolve _ T1 h1 (fun s => z (loF s) - ∑ q, A (hiF q) (loF s) * y (hiF q)) (fun r => y (loF r)) hy1 k
    linarith
  · obtain ⟨k, rfl⟩ : ∃ k, j = hiF k := ⟨⟨j.val - 32, by omega⟩, Fin.ext (by show j.val = 32 + (j.val - 32); omega)⟩
    have := tsolve _ T2 h2 (fun s => z (hiF s)) (fun r => y (hiF r)) hy2 k
    rw [Finset.sum_eq_zero (f := fun i => A (loF i) (hiF k) * y (loF i)) fun i _ => by
      rw [hA _ _ (by show i.val ≤ 32 + k.val; omega), zero_mul], zero_add]
    exact this

/-- The transposed solve against a right-hand side is the right-hand side's own solve against the other. -/
theorem dot_solve (A : Fin 64 → Fin 64 → ℝ) (z y w r : Fin 64 → ℝ) (hy : ∀ j, y j + ∑ i, A i j * y i = z j)
    (hw : ∀ i, w i + ∑ j, A i j * w j = r i) : ∑ i, y i * r i = ∑ j, z j * w j := by
  have e1 : ∀ i, y i * r i = y i * w i + ∑ j, y i * (A i j * w j) := fun i => by rw [← hw i, mul_add, Finset.mul_sum]
  have e2 : ∀ j, z j * w j = y j * w j + ∑ i, A i j * y i * w j := fun j => by rw [← hy j, add_mul, Finset.sum_mul]
  simp only [e1, e2, Finset.sum_add_distrib]
  congr 1
  rw [Finset.sum_comm]
  exact Finset.sum_congr rfl fun j _ => Finset.sum_congr rfl fun i _ => by ring

/-- A matrix with entries only `a` or more below the diagonal. -/
def Below (a : ℕ) (M : Matrix (Fin 64) (Fin 64) ℝ) : Prop := ∀ i j, i.val < j.val + a → M i j = 0

theorem Below.mul {a b : ℕ} {M N : Matrix (Fin 64) (Fin 64) ℝ} (hM : Below a M) (hN : Below b N) : Below (a + b) (M * N) := by
  intro i j h
  rw [Matrix.mul_apply]
  refine Finset.sum_eq_zero fun k _ => ?_
  by_cases h1 : i.val < k.val + a
  · rw [hM i k h1, zero_mul]
  · rw [hN k j (by omega), mul_zero]

/-- One doubling. -/
theorem double {T B p : Matrix (Fin 64) (Fin 64) ℝ} (h : T * B = 1 - p) (hc : p * B = B * p) :
    (T + T * p) * B = 1 - p * p ∧ (p * p) * B = B * (p * p) := by
  constructor
  · rw [add_mul, mul_assoc T p B, hc, ← mul_assoc, h, sub_mul, one_mul]; abel
  · rw [mul_assoc, hc, ← mul_assoc, hc, mul_assoc]

/-- The doubling series of a strictly lower triangular matrix is a left inverse of one plus it. -/
theorem series (A : Matrix (Fin 64) (Fin 64) ℝ) (hA : Below 1 A) (p1 p2 p3 p4 p5 t1 t2 t3 t4 t5 t6 : Matrix (Fin 64) (Fin 64) ℝ)
    (e1 : t1 = 1 - A) (q1 : p1 = A * A) (e2 : t2 = t1 + t1 * p1) (q2 : p2 = p1 * p1) (e3 : t3 = t2 + t2 * p2) (q3 : p3 = p2 * p2)
    (e4 : t4 = t3 + t3 * p3) (q4 : p4 = p3 * p3) (e5 : t5 = t4 + t4 * p4) (q5 : p5 = p4 * p4) (e6 : t6 = t5 + t5 * p5) :
    t6 * (1 + A) = 1 := by
  have h1 : t1 * (1 + A) = 1 - p1 := by rw [e1, q1, sub_mul, mul_add, mul_add, one_mul, one_mul, mul_one]; abel
  have c1 : p1 * (1 + A) = (1 + A) * p1 := by rw [q1, mul_add, add_mul, one_mul, mul_one, mul_assoc]
  have h2 := double h1 c1; rw [← e2, ← q2] at h2
  have h3 := double h2.1 h2.2; rw [← e3, ← q3] at h3
  have h4 := double h3.1 h3.2; rw [← e4, ← q4] at h4
  have h5 := double h4.1 h4.2; rw [← e5, ← q5] at h5
  have h6 := double h5.1 h5.2; rw [← e6] at h6
  have b1 : Below 2 p1 := q1 ▸ hA.mul hA
  have b2 : Below 4 p2 := q2 ▸ b1.mul b1
  have b3 : Below 8 p3 := q3 ▸ b2.mul b2
  have b4 : Below 16 p4 := q4 ▸ b3.mul b3
  have b5 : Below 32 p5 := q5 ▸ b4.mul b4
  have b6 : p5 * p5 = 0 := by ext i j; exact b5.mul b5 i j (by omega)
  rw [h6.1, b6, sub_zero]

/-- The solution of one plus a strictly lower triangular matrix. -/
theorem solve_exists (A : Fin 64 → Fin 64 → ℝ) (hA : ∀ i j, i ≤ j → A i j = 0) (r : Fin 64 → ℝ) (i : Fin 64) :
    ((1 + Matrix.of A)⁻¹ *ᵥ r) i + ∑ j, A i j * ((1 + Matrix.of A)⁻¹ *ᵥ r) j = r i := by
  have hb : Below 1 (Matrix.of A) := fun i j h => hA i j (by show i.val ≤ j.val; omega)
  have hl := series (Matrix.of A) hb _ _ _ _ _ _ _ _ _ _ _ rfl rfl rfl rfl rfl rfl rfl rfl rfl rfl rfl
  have hu : IsUnit (1 + Matrix.of A).det := (Matrix.isUnit_iff_isUnit_det _).mp (IsUnit.of_mul_eq_one_right _ hl)
  have h := congrFun (congrArg (· *ᵥ r) (Matrix.mul_nonsing_inv _ hu)) i
  simp only [← Matrix.mulVec_mulVec, Matrix.one_mulVec, Matrix.add_mulVec, Pi.add_apply] at h
  exact h

end Cert.Body

end
-- ==== Proof.Spec.lean ====
/- What one chunk of one (batch, head) computes, over the reals, and the facts that carry real values through the
   extended reals the ideal reading uses. -/
module

public import proofs.«01_k».proof.Proof.Quant
public import proofs.«01_k».proof.Proof.Real

@[expose] public section

set_option maxRecDepth 16384

noncomputable section

namespace Cert.Body

open Idealize.ShloMosaic

/-! ## Reals among the extended reals -/

theorem sum_coe {ι : Type} [Fintype ι] (f : ι → ℝ) : (∑ i, (f i : EReal)) = ((∑ i, f i : ℝ) : EReal) := by
  classical
  induction (Finset.univ : Finset ι) using Finset.induction with
  | empty => simp
  | insert a s ha ih => rw [Finset.sum_insert ha, Finset.sum_insert ha, ih, EReal.coe_add]

theorem max_coe (a b : ℝ) : max (a : EReal) (b : EReal) = ((max a b : ℝ) : EReal) :=
  (EReal.coe_strictMono.monotone.map_max).symm
theorem min_coe (a b : ℝ) : min (a : EReal) (b : EReal) = ((min a b : ℝ) : EReal) :=
  (EReal.coe_strictMono.monotone.map_min).symm

theorem abs_coe (a : ℝ) : (FloatOps.absf (F := Ideal) (φ := .f32) (a : EReal) : EReal) = ((|a| : ℝ) : EReal) := by
  show max (a : EReal) (-(a : EReal)) = _
  rw [← EReal.coe_neg, max_coe]; rfl
theorem abs_coe' (a : ℝ) : (FloatOps.absf (F := Ideal) (φ := .bf16) (a : EReal) : EReal) = ((|a| : ℝ) : EReal) := abs_coe a

theorem exp_coe (a : ℝ) : Ideal.exp (a : EReal) = ((Real.exp a : ℝ) : EReal) := rfl

theorem neg_inf32 : Ideal.ofBits .f32 0xFF800000#32 = ⊥ := by simp [Ideal.ofBits, Ideal.ieee]
theorem neg_inf16 : Ideal.ofBits .bf16 0xFF80#16 = ⊥ := by simp [Ideal.ofBits, Ideal.ieee]

theorem fold_max {ι : Type} [Fintype ι] (f : ι → EReal) : Finset.fold max ⊥ f Finset.univ = ⨆ i, f i := by
  rw [← Finset.sup_univ_eq_iSup]; rfl

/-- The largest of finitely many nonnegative reals is a nonnegative real. -/
theorem iSup_real {ι : Type} [Fintype ι] [Nonempty ι] (f : ι → ℝ) (h : ∀ i, 0 ≤ f i) :
    ∃ r : ℝ, 0 ≤ r ∧ (⨆ i, (f i : EReal)) = (r : EReal) := by
  obtain ⟨i, hi⟩ := exists_eq_ciSup_of_finite (f := fun i => (f i : EReal))
  exact ⟨f i, h i, hi.symm⟩

/-! ## Literals -/

/-- The literal nearest 1/448, the one added under the square root, and the rest. -/
def cl : ℝ := (Ideal.ofBits .f32 0x3B124925#32).toReal
def eps : ℝ := (Ideal.ofBits .f32 0x358637BD#32).toReal

theorem lit_cl : Ideal.ofBits .f32 0x3B124925#32 = (cl : EReal) := by
  unfold cl; simp [Ideal.ofBits, Ideal.ieee, -EReal.coe_mul]
theorem lit_eps : Ideal.ofBits .f32 0x358637BD#32 = (eps : EReal) := by
  unfold eps; simp [Ideal.ofBits, Ideal.ieee, -EReal.coe_mul]
theorem cl_nonneg : 0 ≤ cl := by unfold cl; simp [Ideal.ofBits, Ideal.ieee, -EReal.coe_mul]
theorem eps_pos : 0 < eps := by unfold eps; simp [Ideal.ofBits, Ideal.ieee, -EReal.coe_mul]
theorem lit_448 : Ideal.ofBits .f32 0x43E00000#32 = ((448 : ℝ) : EReal) := by
  simp [Ideal.ofBits, Ideal.ieee, -EReal.coe_mul]; norm_num
theorem lit_n448 : Ideal.ofBits .f32 0xC3E00000#32 = ((-448 : ℝ) : EReal) := by
  simp [Ideal.ofBits, Ideal.ieee, -EReal.coe_mul, -EReal.coe_neg]; norm_num
theorem lit_0 : Ideal.ofBits .f32 0x00000000#32 = ((0 : ℝ) : EReal) := by simp [Ideal.ofBits, Ideal.ieee]
theorem lit_1 : Ideal.ofBits .f32 0x3F800000#32 = ((1 : ℝ) : EReal) := by
  simp [Ideal.ofBits, Ideal.ieee, -EReal.coe_mul]; norm_num
theorem lit_n1 : Ideal.ofBits .f32 0xBF800000#32 = ((-1 : ℝ) : EReal) := by
  simp [Ideal.ofBits, Ideal.ieee, -EReal.coe_mul, -EReal.coe_neg]; norm_num
theorem lit_16th : Ideal.ofBits .f32 0x3D800000#32 = ((1 / 16 : ℝ) : EReal) := by
  simp [Ideal.ofBits, Ideal.ieee, -EReal.coe_mul]; norm_num

/-! ## The chunk -/

/-- A block's absolute maximum over 448. -/
def tOf (K : Fin 64 → Fin 256 → ℝ) : ℝ := (⨆ i, ⨆ d, ((|K i d| : ℝ) : EReal)).toReal * cl

theorem sup2_coe (K : Fin 64 → Fin 256 → ℝ) :
    (⨆ i, ⨆ d, ((|K i d| : ℝ) : EReal)) = ((⨆ i, ⨆ d, ((|K i d| : ℝ) : EReal)).toReal : EReal) ∧ 0 ≤ (⨆ i, ⨆ d, ((|K i d| : ℝ) : EReal)).toReal := by
  choose f hf he using fun i => iSup_real (fun d => |K i d|) fun d => abs_nonneg _
  simp only [he]
  obtain ⟨r, h0, hr⟩ := iSup_real f hf
  rw [hr]; exact ⟨rfl, h0⟩

theorem tOf_nonneg (K : Fin 64 → Fin 256 → ℝ) : 0 ≤ tOf K := mul_nonneg (sup2_coe K).2 cl_nonneg

/-- Clipped to the codes' range. -/
def clip (x : ℝ) : ℝ := min 448 (max (-448) x)

def sOf (K : Fin 64 → Fin 256 → ℝ) : ℝ := qsc (tOf K)
/-- Its codes. -/
def cOf (K : Fin 64 → Fin 256 → ℝ) (i : Fin 64) (d : Fin 256) : ℝ := clip (K i d * (sOf K)⁻¹)
/-- Its reciprocal row norms. -/
def nOf (K : Fin 64 → Fin 256 → ℝ) (i : Fin 64) : ℝ := (√(∑ d, K i d * K i d + eps))⁻¹
/-- Cumulated gates. -/
def cum (g : Fin 64 → ℝ) (i : Fin 64) : ℝ := ∑ j, if j ≤ i then g j else 0

theorem norm_arg_pos (K : Fin 64 → Fin 256 → ℝ) (i : Fin 64) : 0 < ∑ d, K i d * K i d + eps :=
  add_pos_of_nonneg_of_pos (Finset.sum_nonneg fun d _ => mul_self_nonneg _) eps_pos

/-- One chunk's data. -/
structure Chunk where
  K : Fin 64 → Fin 256 → ℝ
  Q : Fin 64 → Fin 256 → ℝ
  V : Fin 64 → Fin 512 → ℝ
  g : Fin 64 → ℝ
  b : Fin 64 → ℝ

namespace Chunk

variable (C : Chunk) (S : Fin 256 → Fin 512 → ℝ)

def G : Fin 64 → ℝ := cum C.g
/-- The strictly lower triangular key-key part. -/
def A (i j : Fin 64) : ℝ :=
  (∑ d, cOf C.K i d * cOf C.K j d) * nOf C.K i * (nOf C.K j * (C.b j * (sOf C.K * sOf C.K)))
    * if j < i then Real.exp (C.G i - C.G j) else 0
/-- The query-key part: the row is the key, the column the query. -/
def P (i j : Fin 64) : ℝ :=
  (∑ d, cOf C.K i d * cOf C.Q j d) * nOf C.K i * (nOf C.Q j * (sOf C.Q * sOf C.K * (1 / 16)))
    * if i ≤ j then Real.exp (C.G j - C.G i) else 0
/-- The values less what the state predicts. -/
def R (i : Fin 64) (c : Fin 512) : ℝ := C.V i c - Real.exp (C.G i) * nOf C.K i * sOf C.K * ∑ d, cOf C.K i d * S d c
/-- The solved rows. -/
def W (i : Fin 64) (c : Fin 512) : ℝ := (Matrix.mulVec (1 + Matrix.of C.A)⁻¹ fun i => C.R S i c) i
/-- The outputs. -/
def out (i : Fin 64) (c : Fin 512) : ℝ :=
  Real.exp (C.G i) * nOf C.Q i * (sOf C.Q * (1 / 16)) * (∑ d, cOf C.Q i d * S d c) + ∑ j, C.P j i * C.b j * C.W S j c
/-- A key's weight in the new state. -/
def a (j : Fin 64) : ℝ := Real.exp (C.G 63 - C.G j) * C.b j * nOf C.K j * sOf C.K
/-- The new state. -/
def next (d : Fin 256) (c : Fin 512) : ℝ := Real.exp (C.G 63) * S d c + ∑ j, cOf C.K j d * (C.a j * C.W S j c)

theorem A_lower (i j : Fin 64) (h : i ≤ j) : C.A i j = 0 := by
  unfold A; rw [if_neg (not_lt.mpr h), mul_zero]

theorem W_solves (c : Fin 512) (i : Fin 64) : C.W S i c + ∑ j, C.A i j * C.W S j c = C.R S i c :=
  solve_exists C.A C.A_lower (fun i => C.R S i c) i

end Chunk

/-- The final state's column maxima over 448. -/
def tCol (S : Fin 256 → Fin 512 → ℝ) (c : Fin 512) : ℝ := (⨆ d, ((|S d c| : ℝ) : EReal)).toReal * cl

theorem sup1_coe (S : Fin 256 → Fin 512 → ℝ) (c : Fin 512) :
    (⨆ d, ((|S d c| : ℝ) : EReal)) = ((⨆ d, ((|S d c| : ℝ) : EReal)).toReal : EReal) ∧ 0 ≤ (⨆ d, ((|S d c| : ℝ) : EReal)).toReal := by
  obtain ⟨r, h0, hr⟩ := iSup_real (fun d => |S d c|) fun d => abs_nonneg _
  rw [hr]; exact ⟨rfl, h0⟩

theorem tCol_nonneg (S : Fin 256 → Fin 512 → ℝ) (c : Fin 512) : 0 ≤ tCol S c := mul_nonneg (sup1_coe S c).2 cl_nonneg

end Cert.Body

end
-- ==== Proof.KVal.lean ====
/- One unit of one chunk of the kernel over the ideal reading: with real inputs every piece is the real one. -/
module

public import proofs.«01_k».proof.Proof.Spec

@[expose] public section

set_option maxRecDepth 16384

noncomputable section

namespace Cert.Body

open Idealize.ShloMosaic Cert.KernelIdeal

/-! ## Codes, scales and norms -/

section quant
variable (x : FVec Ideal S64x256 .bf16) (K : Fin 64 → Fin 256 → ℝ) (hK : ∀ i d, x (ix2 i d) = (K i d : EReal))
include hK

theorem amax_val : amax x (ix2 0 0) = (tOf K : EReal) := by
  unfold amax cst
  pointwise
  simp only [neg_inf32, neg_inf16, hK, abs_coe', fold_max, lit_cl]
  rw [iSup_comm, (sup2_coe K).1, ← EReal.coe_mul]; rfl

theorem scale_val : scale (amax x) (ix2 0 0) = (sOf K : EReal) := scale_apply _ _ _ (tOf_nonneg K) (amax_val x K hK)
theorem inv_val : inv (amax x) (ix2 0 0) = (((sOf K)⁻¹ : ℝ) : EReal) := inv_apply _ _ _ (tOf_nonneg K) (amax_val x K hK)

theorem norms_val (i : Fin 64) : norms x (ix2 i 0) = (nOf K i : EReal) := by
  unfold norms cst
  pointwise
  simp only [hK, ← EReal.coe_mul, sum_coe, lit_eps, ← EReal.coe_add]
  show (if _ then _ else if _ then _ else _) = _
  rw [if_neg (not_lt.mpr (norm_arg_pos K i).le), if_neg (norm_arg_pos K i).ne']
  rfl

theorem codes_val (i : Fin 64) (d : Fin 256) : codes x (ix2 i d) = (cOf K i d : EReal) := by
  unfold codes
  pointwise
  rw [inv_val x K hK]
  simp only [hK, ← EReal.coe_mul, lit_448, lit_n448, max_coe, min_coe]
  rfl

end quant

end Cert.Body

end
-- ==== Proof.KGate.lean ====
/- The chunk's gates in the kernel over the ideal reading: both halves of the 128 lanes carry the chunk's values. -/
module

public import proofs.«01_k».proof.Proof.Spec
public import proofs.«01_k».proof.Proof.Point

@[expose] public section

set_option maxRecDepth 16384

noncomputable section

namespace Cert.Body

open Idealize.ShloMosaic Cert.KernelIdeal

/-- Lane `j` of half `p`. -/
def ln (p : Fin 2) (j : Fin 64) : Fin 128 := ⟨64 * p.val + j.val, by omega⟩

theorem sum128 (p : Fin 2) (f : Fin 128 → ℝ) : ∑ l, f l = (∑ j, f (ln p j)) + ∑ j, f (ln (1 - p) j) := by
  have h := Fin.sum_univ_add (a := 64) (b := 64) f
  have e0 : ∀ j : Fin 64, Fin.castAdd 64 j = ln 0 j := fun j => Fin.ext (by show j.val = 64 * 0 + j.val; omega)
  have e1 : ∀ j : Fin 64, Fin.natAdd 64 j = ln 1 j := fun j => rfl
  simp only [e0, e1] at h
  rw [h]
  fin_cases p
  · rfl
  · exact add_comm _ _

theorem ofBool_true {p : Prop} [Decidable p] (h : p) : BitVec.ofBool (decide p) = 1#1 := by simp [h]
theorem ofBool_false {p : Prop} [Decidable p] (h : ¬p) : BitVec.ofBool (decide p) = 0#1 := by simp [h]

theorem select_of {α : Type} {p : Prop} [Decidable p] (a b : α) : Scalar.select (BitVec.ofBool (decide p)) a b = if p then a else b := by
  by_cases h : p
  · rw [ofBool_true h, if_pos h]; rfl
  · rw [ofBool_false h, if_neg h]; rfl
theorem select_one {α : Type} (a b : α) : Scalar.select 1#1 a b = a := rfl
theorem select_zero {α : Type} (a b : α) : Scalar.select 0#1 a b = b := rfl

theorem gsum_mask_same : ∀ p : Fin 2, ∀ x l : Fin 64,
    IntOp.andi (IntOp.cmpi .sle (BitVec.ofNat 32 (ln p x).val) (BitVec.ofNat 32 (ln p l).val))
      (IntOp.xori (IntOp.xori (IntOp.cmpi .sge (BitVec.ofNat 32 (ln p x).val) 64#32) (IntOp.cmpi .sge (BitVec.ofNat 32 (ln p l).val) 64#32)) 1#1)
      = BitVec.ofBool (decide (x ≤ l)) := by decide +kernel
theorem gsum_mask_other : ∀ p : Fin 2, ∀ x l : Fin 64,
    IntOp.andi (IntOp.cmpi .sle (BitVec.ofNat 32 (ln (1 - p) x).val) (BitVec.ofNat 32 (ln p l).val))
      (IntOp.xori (IntOp.xori (IntOp.cmpi .sge (BitVec.ofNat 32 (ln (1 - p) x).val) 64#32) (IntOp.cmpi .sge (BitVec.ofNat 32 (ln p l).val) 64#32)) 1#1)
      = 0#1 := by decide +kernel

theorem gsum_val (g : FVec Ideal S1x6x128 .f32) (u : Fin 6) (gr : Fin 128 → ℝ) (hg : ∀ l, g (ix3 0 u l) = (gr l : EReal)) (p : Fin 2) (j : Fin 64) :
    gsum g (ix2 u (ln p j)) = (cum (fun i => gr (ln p i)) j : EReal) := by
  unfold gsum tri cst
  pointwise
  simp only [hg]
  have e : ∀ x : Fin 128, ∀ c : BitVec 1, Scalar.select c ((gr x : ℝ) : EReal) (0 : EReal) = ((Scalar.select c (gr x) 0 : ℝ) : EReal) := by
    intro x c; unfold Scalar.select; split <;> rfl
  simp only [e, sum_coe]
  rw [sum128 p]
  simp only [gsum_mask_same, gsum_mask_other, select_of, select_zero, Finset.sum_const_zero, add_zero]
  rfl

theorem roll_mask : ∀ n : Fin 10, ∀ l : Fin 128,
    IntOp.xori (IntOp.xori (IntOp.cmpi .slt (BitVec.ofNat 32 l.val) 64#32) (par (BitVec.ofNat 32 n.val))) 1#1
      = BitVec.ofBool (decide (l.val / 64 = n.val % 2)) := by decide +kernel

/-- The half a chunk's lanes lie in. -/
def hf (n : Fin 10) : Fin 2 := ⟨n.val % 2, Nat.mod_lt _ (by decide)⟩
/-- A lane within its half. -/
def lm (l : Fin 128) : Fin 64 := ⟨l.val % 64, Nat.mod_lt _ (by decide)⟩

theorem roll_val (n : Fin 10) (x : FVec Ideal S6x128 .f32) (u : Fin 6) (l : Fin 128) :
    roll (BitVec.ofNat 32 n.val) x (ix2 u l) = x (ix2 u (ln (hf n) (lm l))) := by
  unfold roll
  pointwise
  refine (congrArg (fun c => Scalar.select c _ _) (roll_mask n l)).trans ?_
  rw [select_of]
  have hn : n.val % 2 < 2 := Nat.mod_lt _ (by decide)
  split
  · congr 2; apply Fin.ext; show l.val = 64 * (n.val % 2) + l.val % 64; omega
  · congr 2; apply Fin.ext; show (l.val + 128 - 64) % 128 = 64 * (n.val % 2) + l.val % 64; omega

/-- Position `j` of chunk `n`. -/
def at64 (n : Fin 10) (j : Fin 64) : Fin 640 := ⟨64 * n.val + j.val, by omega⟩

theorem lane128_ln (n : Fin 10) (j : Fin 64) : lane128 n (ln (hf n) j) = at64 n j :=
  Fin.ext (by show 128 * (n.val / 2) + (64 * (n.val % 2) + j.val) = 64 * n.val + j.val; omega)

theorem pG_val (n : Fin 10) (x : Vec Ideal S1x6x640 .f32) (u : Fin 6) (g : Fin 640 → ℝ) (hg : ∀ s, x (ix3 0 u s) = (g s : EReal)) (l : Fin 128) :
    pG n x (ix2 u l) = (cum (fun j => g (at64 n j)) (lm l) : EReal) := by
  unfold pG gG
  rw [roll_val, gsum_val _ _ (fun l => g (lane128 n l)) (fun l => hg _)]
  simp only [lane128_ln]

theorem pB_val (n : Fin 10) (x : Vec Ideal S1x6x640 .f32) (u : Fin 6) (b : Fin 640 → ℝ) (hb : ∀ s, x (ix3 0 u s) = (b s : EReal)) (l : Fin 128) :
    pB n x (ix2 u l) = (b (at64 n (lm l)) : EReal) := by
  unfold pB gB
  rw [roll_val]
  have : shapeCast S6x128 (pL n x) (by decide) (ix2 u (ln (hf n) (lm l))) = pL n x (ix3 0 u (ln (hf n) (lm l))) := by
    pointwise
  rw [this, ← lane128_ln]; exact hb _

end Cert.Body

end
-- ==== Proof.KMat.lean ====
/- A unit's stacked products in the kernel over the ideal reading, half by half. -/
module

public import proofs.«01_k».proof.Proof.KVal
public import proofs.«01_k».proof.Proof.KGate

@[expose] public section

set_option maxRecDepth 16384

noncomputable section

namespace Cert.Body

open Idealize.ShloMosaic Cert.KernelIdeal

/-! ## The masks, half by half -/

theorem inA_a : ∀ p : Fin 2, ∀ j : Fin 64, IntOp.andi (IntOp.cmpi .sge (BitVec.ofNat 32 (ln p j).val) (aO p)) (IntOp.cmpi .slt (BitVec.ofNat 32 (ln p j).val) (aE p)) = 1#1 := by decide +kernel
theorem inA_p : ∀ p : Fin 2, ∀ j : Fin 64, IntOp.andi (IntOp.cmpi .sge (BitVec.ofNat 32 (ln (1 - p) j).val) (aO p)) (IntOp.cmpi .slt (BitVec.ofNat 32 (ln (1 - p) j).val) (aE p)) = 0#1 := by decide +kernel
theorem eye_aa : ∀ p : Fin 2, ∀ j x : Fin 64, IntOp.cmpi .eq (IntOp.subi (BitVec.ofNat 32 (ln p j).val) (aO p)) (BitVec.ofNat 32 x.val) = BitVec.ofBool (decide (x = j)) := by decide +kernel
theorem eye_pa : ∀ p : Fin 2, ∀ j x : Fin 64, IntOp.cmpi .eq (IntOp.subi (BitVec.ofNat 32 (ln (1 - p) j).val) (aO p)) (BitVec.ofNat 32 x.val) = 0#1 := by decide +kernel
theorem eye_pp : ∀ p : Fin 2, ∀ j x : Fin 64, IntOp.cmpi .eq (IntOp.subi (BitVec.ofNat 32 (ln (1 - p) j).val) (pO p)) (BitVec.ofNat 32 x.val) = BitVec.ofBool (decide (x = j)) := by decide +kernel
theorem keep_a : ∀ p : Fin 2, ∀ j i : Fin 64, IntOp.cmpi .sge (IntOp.subi (IntOp.subi (BitVec.ofNat 32 i.val) 1#32) (IntOp.subi (BitVec.ofNat 32 (ln p j).val) (aO p))) 0#32 = BitVec.ofBool (decide (j < i)) := by decide +kernel
theorem keep_p : ∀ p : Fin 2, ∀ j i : Fin 64, IntOp.cmpi .sge (IntOp.subi (IntOp.subi (BitVec.ofNat 32 (ln (1 - p) j).val) (pO p)) (BitVec.ofNat 32 i.val)) 0#32 = BitVec.ofBool (decide (i ≤ j)) := by decide +kernel

theorem lm_ln (p : Fin 2) (j : Fin 64) : lm (ln p j) = j := Fin.ext (by show (64 * p.val + j.val) % 64 = j.val; omega)

theorem sum_pick (f : Fin 64 → ℝ) (j : Fin 64) : (∑ x, if x = j then f x else 0) = f j := by
  rw [Finset.sum_ite_eq', if_pos (Finset.mem_univ _)]

theorem ite_coe (p : Prop) [Decidable p] (a b : ℝ) : (if p then (a : EReal) else (b : EReal)) = ((if p then a else b : ℝ) : EReal) := by
  split <;> rfl

theorem eye_ap : ∀ p : Fin 2, ∀ j x : Fin 64, IntOp.cmpi .eq (IntOp.subi (BitVec.ofNat 32 (ln p j).val) (pO p)) (BitVec.ofNat 32 x.val) = 0#1 := by decide +kernel

theorem mask_bot : Named.named (F := Ideal) (φ := .f32) κ "mask" 0xF149F2CA#32 = (⊥ : EReal) := IdealRules.named_const.ideal_named_scalar _ _ _ _ rfl
theorem exp_bot : Ideal.exp ⊥ = ((0 : ℝ) : EReal) := rfl

section rows
variable (p : Fin 2) (rk rq : FVec Ideal S64x1 .f32) (a b : Fin 64 → ℝ) (hk : ∀ i, rk (ix2 i 0) = (a i : EReal)) (hq : ∀ i, rq (ix2 i 0) = (b i : EReal))
include hk hq

theorem rRow_a (j : Fin 64) : rRow (aO p) (pO p) rk rq (ix2 0 (ln p j)) = (a j : EReal) := by
  unfold rRow eye lane row cst
  pointwise
  simp only [eye_aa, eye_ap, select_of, select_zero, hk, hq]
  rw [Finset.sum_ite_eq', if_pos (Finset.mem_univ _)]
theorem rRow_p (j : Fin 64) : rRow (aO p) (pO p) rk rq (ix2 0 (ln (1 - p) j)) = (b j : EReal) := by
  unfold rRow eye lane row cst
  pointwise
  simp only [eye_pa, eye_pp, select_of, select_zero, hk, hq]
  rw [Finset.sum_ite_eq', if_pos (Finset.mem_univ _)]

theorem laneScale_a (sk sq : FVec Ideal S1x1 .f32) (bRow : FVec Ideal S1x128 .f32) (s t : ℝ) (be : Fin 64 → ℝ) (hs : sk (ix2 0 0) = (s : EReal))
    (ht : sq (ix2 0 0) = (t : EReal)) (hb : ∀ l, bRow (ix2 0 l) = (be (lm l) : EReal)) (j : Fin 64) :
    laneScale (aO p) (aE p) (pO p) sk sq rk rq bRow (ix2 0 (ln p j)) = ((a j * (be j * (s * s)) : ℝ) : EReal) := by
  unfold laneScale rowA inA lane cst
  pointwise
  rw [rRow_a p rk rq a b hk hq]
  simp only [inA_a, select_one, hs, hb, lm_ln, EReal.coe_mul]
theorem laneScale_p (sk sq : FVec Ideal S1x1 .f32) (bRow : FVec Ideal S1x128 .f32) (s t : ℝ) (hs : sk (ix2 0 0) = (s : EReal))
    (ht : sq (ix2 0 0) = (t : EReal)) (j : Fin 64) :
    laneScale (aO p) (aE p) (pO p) sk sq rk rq bRow (ix2 0 (ln (1 - p) j)) = ((b j * (t * s * (1 / 16)) : ℝ) : EReal) := by
  unfold laneScale rowA inA lane cst
  pointwise
  rw [rRow_p p rk rq a b hk hq]
  simp only [inA_p, select_zero, hs, ht, lit_16th, EReal.coe_mul]
end rows

theorem gRow_apply (g : FVec Ideal S6x128 .f32) (u : Fin 6) (l : Fin 128) : gRow g u (ix2 0 l) = g (ix2 u l) := by
  unfold gRow
  pointwise
theorem gCol_apply (g : FVec Ideal S6x128 .f32) (u : Fin 6) (i : Fin 64) : gCol g u (ix2 i 0) = g (ix2 u (ln 0 i)) := by
  unfold gCol
  pointwise
  congr 2; exact Fin.ext (by show i.val = 64 * 0 + i.val; omega)

theorem rhs_a (p : Fin 2) (k8 q8 : FVec Ideal S64x256 .fp8e4m3) (j : Fin 64) (d : Fin 256) : rhs p k8 q8 (ix2 (ln p j) d) = k8 (ix2 j d) := by
  have hj := j.isLt
  unfold rhs
  pointwise
  fin_cases p
  · rw [dif_pos (by show 64 * 0 + j.val < 64; omega)]
    show k8 _ = _
    congr 2; exact Fin.ext (by show 64 * 0 + j.val = j.val; omega)
  · rw [dif_neg (by show ¬ 64 * 1 + j.val < 64; omega)]
    show k8 _ = _
    congr 2; exact Fin.ext (by show 64 * 1 + j.val - 64 = j.val; omega)
theorem rhs_p (p : Fin 2) (k8 q8 : FVec Ideal S64x256 .fp8e4m3) (j : Fin 64) (d : Fin 256) : rhs p k8 q8 (ix2 (ln (1 - p) j) d) = q8 (ix2 j d) := by
  have hj := j.isLt
  unfold rhs
  pointwise
  fin_cases p
  · rw [dif_neg (by show ¬ 64 * 1 + j.val < 64; omega)]
    show q8 _ = _
    congr 2; exact Fin.ext (by show 64 * 1 + j.val - 64 = j.val; omega)
  · rw [dif_pos (by show 64 * 0 + j.val < 64; omega)]
    show q8 _ = _
    congr 2; exact Fin.ext (by show 64 * 0 + j.val = j.val; omega)

theorem expo_a (p : Fin 2) (gRow : FVec Ideal S1x128 .f32) (gCol : FVec Ideal S64x1 .f32) (G : Fin 64 → ℝ)
    (hr : ∀ l, gRow (ix2 0 l) = (G (lm l) : EReal)) (hc : ∀ i, gCol (ix2 i 0) = (G i : EReal)) (i j : Fin 64) :
    expo (aO p) (aE p) (pO p) gRow gCol (ix2 i (ln p j)) = ((if j < i then Real.exp (G i - G j) else 0 : ℝ) : EReal) := by
  unfold expo keep sgn rowA inA lane row cst
  pointwise
  simp only [inA_a, select_one, keep_a, select_of, hr, hc, lm_ln, mask_bot, ← EReal.coe_sub]
  split
  · simp only [mul_one, ← EReal.coe_sub]; rfl
  · rfl
theorem expo_p (p : Fin 2) (gRow : FVec Ideal S1x128 .f32) (gCol : FVec Ideal S64x1 .f32) (G : Fin 64 → ℝ)
    (hr : ∀ l, gRow (ix2 0 l) = (G (lm l) : EReal)) (hc : ∀ i, gCol (ix2 i 0) = (G i : EReal)) (i j : Fin 64) :
    expo (aO p) (aE p) (pO p) gRow gCol (ix2 i (ln (1 - p) j)) = ((if i ≤ j then Real.exp (G j - G i) else 0 : ℝ) : EReal) := by
  unfold expo keep sgn rowA inA lane row cst
  pointwise
  simp only [inA_p, select_zero, keep_p, select_of, hr, hc, lm_ln, mask_bot, lit_n1, ← EReal.coe_sub, ← EReal.coe_mul]
  split
  · rw [exp_coe]; congr 2; ring
  · rfl

theorem mMat_apply (ao ae po : BitVec 32) (k8 : FVec Ideal S64x256 .fp8e4m3) (rhs : FVec Ideal S128x256 .fp8e4m3)
    (sk sq : FVec Ideal S1x1 .f32) (rk rq : FVec Ideal S64x1 .f32) (gRow bRow : FVec Ideal S1x128 .f32) (gCol : FVec Ideal S64x1 .f32) (i : Fin 64) (l : Fin 128) :
    mMat ao ae po k8 rhs sk sq rk rq gRow bRow gCol (ix2 i l) =
      (∑ x, k8 (ix2 i x) * rhs (ix2 l x)) * rk (ix2 i 0) * laneScale ao ae po sk sq rk rq bRow (ix2 0 l) * expo ao ae po gRow gCol (ix2 i l) := by
  unfold mMat
  pointwise

/-- A unit's loads carry a chunk's real data. -/
structure UIn (C : Chunk) (u : Fin 6) (k q : FVec Ideal S64x256 .bf16) (v : FVec Ideal S64x512 .bf16) (g b : FVec Ideal S6x128 .f32) : Prop where
  k : ∀ i d, k (ix2 i d) = (C.K i d : EReal)
  q : ∀ i d, q (ix2 i d) = (C.Q i d : EReal)
  v : ∀ i d, v (ix2 i d) = (C.V i d : EReal)
  g : ∀ l, g (ix2 u l) = (C.G (lm l) : EReal)
  b : ∀ l, b (ix2 u l) = (C.b (lm l) : EReal)

section unit
variable {C : Chunk} {u : Fin 6} {k q : FVec Ideal S64x256 .bf16} {v : FVec Ideal S64x512 .bf16} {g b : FVec Ideal S6x128 .f32} (h : UIn C u k q v g b)
include h

theorem UIn.gRow (l : Fin 128) : gRow g u (ix2 0 l) = (C.G (lm l) : EReal) := (gRow_apply g u l).trans (h.g l)
theorem UIn.bRow (l : Fin 128) : Cert.Body.gRow b u (ix2 0 l) = (C.b (lm l) : EReal) := (gRow_apply b u l).trans (h.b l)
theorem UIn.gCol (i : Fin 64) : gCol g u (ix2 i 0) = (C.G i : EReal) := (gCol_apply g u i).trans ((h.g _).trans (by rw [lm_ln]))
theorem UIn.bCol (i : Fin 64) : Cert.Body.gCol b u (ix2 i 0) = (C.b i : EReal) := (gCol_apply b u i).trans ((h.b _).trans (by rw [lm_ln]))

theorem uM_a (p : Fin 2) (i j : Fin 64) : uM p u k q g b (ix2 i (ln p j)) = (C.A i j : EReal) := by
  unfold uM
  rw [mMat_apply, laneScale_a p _ _ _ _ (norms_val k C.K h.k) (norms_val q C.Q h.q) _ _ _ _ _ _ (scale_val k C.K h.k) (scale_val q C.Q h.q) h.bRow,
    expo_a p _ _ _ h.gRow h.gCol, norms_val k C.K h.k]
  simp only [rhs_a, codes_val k C.K h.k, ← EReal.coe_mul, sum_coe]
  rfl
theorem uM_p (p : Fin 2) (i j : Fin 64) : uM p u k q g b (ix2 i (ln (1 - p) j)) = (C.P i j : EReal) := by
  unfold uM
  rw [mMat_apply, laneScale_p p _ _ _ _ (norms_val k C.K h.k) (norms_val q C.Q h.q) _ _ _ _ _ (scale_val k C.K h.k) (scale_val q C.Q h.q),
    expo_p p _ _ _ h.gRow h.gCol, norms_val k C.K h.k]
  simp only [rhs_p, codes_val k C.K h.k, codes_val q C.Q h.q, ← EReal.coe_mul, sum_coe]
  rfl

theorem toEnd_val (l : Fin 128) : gRow (toEnd g) u (ix2 0 l) = ((Real.exp (C.G 63 - C.G (lm l)) : ℝ) : EReal) := by
  rw [gRow_apply]
  unfold toEnd gLast
  pointwise
  rw [h.g, h.g, ← EReal.coe_sub]; rfl

theorem decU_val : decU g u (ix2 0 0) = ((Real.exp (C.G 63) : ℝ) : EReal) := by
  unfold decU decay gLast
  pointwise
  rw [show g (ix2 u 63) = _ from h.g 63]; rfl

theorem uZ_a (p : Fin 2) (i j : Fin 64) : uZ p u k q g b (ix2 i (ln p j)) = ((if i = j then C.a i else 0 : ℝ) : EReal) := by
  unfold uZ zMat inA eye lane row cst
  pointwise
  rw [rRow_a p _ _ _ _ (norms_val k C.K h.k) (norms_val q C.Q h.q), toEnd_val h, h.bRow, scale_val k C.K h.k]
  simp only [inA_a, eye_aa, select_one, select_of, lm_ln, ← EReal.coe_mul]
  by_cases e : i = j
  · rw [if_pos e, if_pos e, e]; rfl
  · rw [if_neg e, if_neg e]; rfl
theorem uZ_p (p : Fin 2) (i j : Fin 64) : uZ p u k q g b (ix2 i (ln (1 - p) j)) = ((C.P i j * C.b i : ℝ) : EReal) := by
  unfold uZ zMat inA eye lane row cst
  pointwise
  rw [uM_p h, h.bCol]
  simp only [inA_p, select_zero, EReal.coe_mul]

theorem ckCol_val (i : Fin 64) : ckCol (norms k) (scale (amax k)) (Cert.Body.gCol g u) (ix2 i 0) = ((Real.exp (C.G i) * nOf C.K i * sOf C.K : ℝ) : EReal) := by
  unfold ckCol
  pointwise
  rw [h.gCol, norms_val k C.K h.k, scale_val k C.K h.k, exp_coe, EReal.coe_mul, EReal.coe_mul]
theorem cqCol_val (i : Fin 64) : cqCol (norms q) (scale (amax q)) (Cert.Body.gCol g u) (ix2 i 0) = ((Real.exp (C.G i) * nOf C.Q i * (sOf C.Q * (1 / 16)) : ℝ) : EReal) := by
  unfold cqCol cst
  pointwise
  rw [h.gCol, norms_val q C.Q h.q, scale_val q C.Q h.q, exp_coe, lit_16th, EReal.coe_mul, EReal.coe_mul, EReal.coe_mul]

end unit

end Cert.Body

end
-- ==== Proof.KSolve.lean ====
/- The triangular solve of a pair of units in the kernel over the ideal reading. -/
module

public import proofs.«01_k».proof.Proof.KMat

@[expose] public section

set_option maxRecDepth 16384

noncomputable section

namespace Cert.Body

open Idealize.ShloMosaic Cert.KernelIdeal

/-- Row `r` of half `e` of 64. -/
def he (e : Fin 2) (r : Fin 32) : Fin 64 := ⟨32 * e.val + r.val, by omega⟩

theorem diag_mask : ∀ p e : Fin 2, ∀ s : Fin 32,
    IntOp.cmpi .slt (BitVec.ofNat 32 (ln p (he e s)).val) 32#32 = BitVec.ofBool (decide (p = 0 ∧ e = 0)) ∧
    IntOp.cmpi .slt (BitVec.ofNat 32 (ln p (he e s)).val) 64#32 = BitVec.ofBool (decide (p = 0)) ∧
    IntOp.cmpi .slt (BitVec.ofNat 32 (ln p (he e s)).val) 96#32 = BitVec.ofBool (decide (p = 0 ∨ e = 0)) := by decide +kernel
theorem off_mask : ∀ p : Fin 2, ∀ j : Fin 64, IntOp.cmpi .slt (BitVec.ofNat 32 (ln p j).val) 64#32 = BitVec.ofBool (decide (p = 0)) := by decide +kernel

theorem he_zero (r : Fin 32) (h : r.val < 64) : (⟨r.val, h⟩ : Fin 64) = he 0 r := Fin.ext (by show r.val = 32 * 0 + r.val; omega)
theorem he_lo (r : Fin 32) : he 0 r = loF r := Fin.ext (by show 32 * 0 + r.val = r.val; omega)
theorem he_one (r : Fin 32) (h : 32 + r.val < 64) : (⟨32 + r.val, h⟩ : Fin 64) = he 1 r := rfl

section pair
variable (m0 m1 : FVec Ideal S64x128 .f32) (A : Fin 2 → Fin 64 → Fin 64 → ℝ)
  (h0 : ∀ i j, m0 (ix2 i (ln 0 j)) = (A 0 i j : EReal)) (h1 : ∀ i j, m1 (ix2 i (ln 1 j)) = (A 1 i j : EReal))
include h0 h1

theorem diag_val (p e : Fin 2) (r s : Fin 32) : diag m0 m1 (ix2 r (ln p (he e s))) = (A p (he e r) (he e s) : EReal) := by
  unfold diag lane32 lane
  pointwise
  simp only [(diag_mask p e s).1, (diag_mask p e s).2.1, (diag_mask p e s).2.2, select_of, he_zero, he_one]
  fin_cases p <;> fin_cases e
  · exact h0 _ _
  · exact h0 _ _
  · exact h1 _ _
  · exact h1 _ _
theorem off_val (p : Fin 2) (r : Fin 32) (j : Fin 64) : off m0 m1 (ix2 r (ln p j)) = (A p (hiF r) j : EReal) := by
  unfold off lane32 lane
  pointwise
  simp only [off_mask, select_of]
  fin_cases p
  · exact h0 _ _
  · exact h1 _ _
end pair

theorem col_mask : ∀ j : Fin 32, ∀ l : Fin 128,
    (Scalar.select (IntOp.cmpi .slt (IntOp.addi (IntOp.andi (BitVec.ofNat 32 l.val) 4294967264#32) (BitVec.ofNat 32 j.val)) 0#32)
      (IntOp.addi (IntOp.addi (IntOp.andi (BitVec.ofNat 32 l.val) 4294967264#32) (BitVec.ofNat 32 j.val)) 128#32)
      (IntOp.addi (IntOp.andi (BitVec.ofNat 32 l.val) 4294967264#32) (BitVec.ofNat 32 j.val))) =
    BitVec.ofNat 32 (32 * (l.val / 32) + j.val) := by decide +kernel

theorem col8_apply (t : FVec Ideal S8x128 .f32) (j : Fin 32) (r : Fin 8) (l : Fin 128) :
    col8 t j.val (ix2 r l) = t (ix2 r ⟨32 * (l.val / 32) + j.val, by omega⟩) := by
  have e : (shapeCast S8x128 (shapeCast S8x128x1
    (select (cmpi .slt (idx8 j.val) (broadcast S8x128 0#32)) (addi (idx8 j.val) (broadcast S8x128 128#32)) (idx8 j.val))
    (by decide)) (by decide) : IVec S8x128 32) (ix2 r l) = BitVec.ofNat 32 (32 * (l.val / 32) + j.val) := by
    unfold idx8 base8 lane8
    pointwise
    exact col_mask j l
  unfold col8
  show t _ = _
  congr 1; funext b
  fin_cases b
  · rfl
  · apply Fin.ext
    show (BitVec.toNat _) % 128 = 32 * (l.val / 32) + j.val
    rw [e, BitVec.toNat_ofNat]
    omega

theorem eye8_mask : ∀ p e : Fin 2, ∀ c : Fin 32, ∀ i : Fin 4, ∀ r : Fin 8,
    IntOp.cmpi .eq (IntOp.andi (BitVec.ofNat 32 (ln p (he e c)).val) 31#32) (IntOp.addi (BitVec.ofNat 32 r.val) (BitVec.ofNat 32 (8 * i.val)))
      = BitVec.ofBool (decide ((⟨8 * i.val + r.val, by omega⟩ : Fin 32) = c)) := by decide +kernel

theorem eye8_val (p e : Fin 2) (c : Fin 32) (i : Fin 4) (r : Fin 8) :
    eye8 (F := Ideal) i (ix2 r (ln p (he e c))) = ((if (⟨8 * i.val + r.val, by omega⟩ : Fin 32) = c then 1 else 0 : ℝ) : EReal) := by
  unfold eye8 lane8 row8 cst
  pointwise
  rw [eye8_mask, select_of]
  split <;> rfl

theorem tile_apply (a : FVec Ideal S32x128 .f32) (i : Fin 4) (r : Fin 8) (l : Fin 128) : tile a i (ix2 r l) = a (ix2 ⟨8 * i.val + r.val, by omega⟩ l) := by
  unfold tile
  pointwise

theorem row_apply (t : FVec Ideal S8x128 .f32) (j : ℕ) (r : Fin 8) (l : Fin 128) :
    broadcastTo S8x128 (extractStridedSlice S1x128 ![j % 8, 0] t (slices_row j)) (by decide) (ix2 r l) = t (ix2 ⟨j % 8, Nat.mod_lt _ (by decide)⟩ l) := by
  pointwise

/-- The substitution's steps over the reals, one column. -/
def trec (L : Fin 32 → Fin 32 → ℝ) (c : Fin 32) : ℕ → Fin 32 → ℝ
  | 0, r => if r = c then 1 else 0
  | n + 1, r => if h : n < 32 then trec L c n r - L r ⟨n, h⟩ * trec L c n ⟨n, h⟩ else 0

theorem trec_solves (L : Fin 32 → Fin 32 → ℝ) (hL : ∀ r s, r ≤ s → L r s = 0) (c r : Fin 32) :
    trec L c 31 r + ∑ s, L r s * trec L c 31 s = if r = c then 1 else 0 :=
  fs_real L hL (trec L c) c (fun _ => rfl) (fun j hj r => dif_pos (show j < 32 by omega)) r

theorem fs_val (a : FVec Ideal S32x128 .f32) (L : Fin 32 → Fin 32 → ℝ) (hL : ∀ r s, r ≤ s → L r s = 0) (p e : Fin 2)
    (ha : ∀ r s, a (ix2 r (ln p (he e s))) = (L r s : EReal)) (c : Fin 32) (n : ℕ) : n ≤ 31 → ∀ (i : Fin 4) (r : Fin 8),
    fs a n i.val (ix2 r (ln p (he e c))) = (trec L c n ⟨8 * i.val + r.val, by omega⟩ : EReal) := by
  induction n with
  | zero =>
    intro _ i r
    show eye8 (Fin.ofNat 4 i.val) _ = _
    rw [show Fin.ofNat 4 i.val = i from Fin.ext (Nat.mod_eq_of_lt i.isLt)]
    exact eye8_val p e c i r
  | succ n ih =>
    intro hn i r
    have hn' : n < 32 := by omega
    show fsStep a n (fs a n) i.val _ = _
    rw [show trec L c (n + 1) ⟨8 * i.val + r.val, by omega⟩ = trec L c n ⟨8 * i.val + r.val, by omega⟩
      - L ⟨8 * i.val + r.val, by omega⟩ ⟨n, hn'⟩ * trec L c n ⟨n, hn'⟩ from dif_pos hn']
    unfold fsStep
    by_cases hb : (n + 1) / 8 ≤ i.val
    · rw [show Nat.ble ((n + 1) / 8) i.val = true from Nat.ble_eq.mpr hb]
      show fs a n i.val _ - col8 (tile a (Fin.ofNat 4 i.val)) n _ * broadcastTo S8x128 _ _ _ = _
      rw [show Fin.ofNat 4 i.val = i from Fin.ext (Nat.mod_eq_of_lt i.isLt), row_apply, ih (by omega),
        ih (by omega) ⟨n / 8, by omega⟩, show col8 (tile a i) n = col8 (tile a i) (⟨n, hn'⟩ : Fin 32).val from rfl, col8_apply, tile_apply]
      rw [show (⟨32 * ((ln p (he e c)).val / 32) + (⟨n, hn'⟩ : Fin 32).val, _⟩ : Fin 128) = ln p (he e ⟨n, hn'⟩) from Fin.ext (by
        show 32 * ((64 * p.val + (32 * e.val + c.val)) / 32) + n = 64 * p.val + (32 * e.val + n); omega), ha,
        ← EReal.coe_mul, ← EReal.coe_sub]
      have e2 : ∀ h, (⟨8 * (n / 8) + n % 8, h⟩ : Fin 32) = ⟨n, hn'⟩ := fun h => Fin.ext (by show 8 * (n / 8) + n % 8 = n; omega)
      simp only [e2]
    · rw [show Nat.ble ((n + 1) / 8) i.val = false from by
        cases h : Nat.ble ((n + 1) / 8) i.val
        · rfl
        · exact absurd (Nat.ble_eq.mp h) hb]
      show fs a n i.val _ = _
      rw [ih (by omega), hL _ _ (by show 8 * i.val + r.val ≤ n; omega), zero_mul, sub_zero]

theorem fsInv_val (a : FVec Ideal S32x128 .f32) (L : Fin 32 → Fin 32 → ℝ) (hL : ∀ r s, r ≤ s → L r s = 0) (p e : Fin 2)
    (ha : ∀ r s, a (ix2 r (ln p (he e s))) = (L r s : EReal)) (c r : Fin 32) :
    fsInv a (ix2 r (ln p (he e c))) = (trec L c 31 r : EReal) := by
  have hr := r.isLt
  have key := fun (i : Fin 4) (q : Fin 8) => fs_val a L hL p e ha c 31 le_rfl i q
  unfold fsInv
  pointwise
  split
  · refine (key 0 _).trans ?_; congr 2; exact Fin.ext (by show 8 * 0 + r.val = r.val; omega)
  · split
    · refine (key 1 _).trans ?_; congr 2; exact Fin.ext (by show 8 * 1 + (r.val - 8) = r.val; omega)
    · split
      · refine (key 2 _).trans ?_; congr 2; exact Fin.ext (by show 8 * 2 + (r.val - 8 - 8) = r.val; omega)
      · refine (key 3 _).trans ?_; congr 2; exact Fin.ext (by show 8 * 3 + (r.val - 8 - 8 - 8) = r.val; omega)

/-! ## Stacked products -/

theorem sum_head (n m : ℕ) (f : Fin (n + m) → EReal) (hz : ∀ i, n ≤ i.val → f i = 0) :
    ∑ i, f i = ∑ i : Fin n, f ⟨i.val, by omega⟩ := by
  rw [Fin.sum_univ_add, Finset.sum_eq_zero (f := fun i => f (Fin.natAdd n i)) (fun i _ => hz _ (by show n ≤ n + i.val; omega)), add_zero]
  rfl

theorem hi_val {s : Shape} (x : FVec Ideal s .f32) (j : s.Idx) : hi x j = x j := rfl
theorem mid_val {s : Shape} (x : FVec Ideal s .f32) (j : s.Idx) (r : ℝ) (h : x j = (r : EReal)) : mid x j = 0 := by
  show x j - x j = 0
  rw [h, ← EReal.coe_sub, sub_self]; rfl
theorem lo_val {s : Shape} (x : FVec Ideal s .f32) (j : s.Idx) (r : ℝ) (h : x j = (r : EReal)) : lo x j = 0 := by
  show (x j - x j) - (x j - x j) = 0
  rw [h, ← EReal.coe_sub, ← EReal.coe_sub, sub_self]; rfl

theorem mm32_val (x z : FVec Ideal S32x128 .f32) (o : Fin 4) (r : Fin 32) (l : Fin 128) (X Z : Fin 32 → ℝ)
    (hx : ∀ s, x (ix2 s ⟨32 * o.val + r.val, by omega⟩) = (X s : EReal)) (hz : ∀ s, z (ix2 s l) = (Z s : EReal)) :
    mm32 (lat (stackL32 x) o) z (ix2 r l) = ((∑ s, X s * Z s : ℝ) : EReal) := by
  unfold mm32 lat stackL32 stackR32
  pointwise
  rw [sum_head 32 160 _ fun i hi => by
    have h1 : ¬ i.val < 32 := by omega
    simp only [h1, dite_false, hi_val, hx, hz, mid_val _ _ _ (hx _), mid_val _ _ _ (hz _), lo_val _ _ _ (hx _), lo_val _ _ _ (hz _)]
    split_ifs <;> simp]
  simp only [Fin.is_lt, dite_true, hi_val, hx, hz, ← EReal.coe_mul, sum_coe]

/-! ## The solve -/

/-- The first block's number. -/
def o1 (p : Fin 2) : Fin 4 := bif Nat.beq p.val 0 then 0 else 2
def o2 (p : Fin 2) : Fin 4 := bif Nat.beq p.val 0 then 1 else 3

theorem o1_lane (p : Fin 2) (r : Fin 32) (h : 32 * (o1 p).val + r.val < 128) : (⟨32 * (o1 p).val + r.val, h⟩ : Fin 128) = ln p (he 0 r) := by
  apply Fin.ext; fin_cases p
  · show 32 * 0 + r.val = 64 * 0 + (32 * 0 + r.val); omega
  · show 32 * 2 + r.val = 64 * 1 + (32 * 0 + r.val); omega
theorem o2_lane (p : Fin 2) (r : Fin 32) (h : 32 * (o2 p).val + r.val < 128) : (⟨32 * (o2 p).val + r.val, h⟩ : Fin 128) = ln p (he 1 r) := by
  apply Fin.ext; fin_cases p
  · show 32 * 1 + r.val = 64 * 0 + (32 * 1 + r.val); omega
  · show 32 * 3 + r.val = 64 * 1 + (32 * 1 + r.val); omega

section solve
variable (m0 m1 : FVec Ideal S64x128 .f32) (A : Fin 2 → Fin 64 → Fin 64 → ℝ)
  (h0 : ∀ i j, m0 (ix2 i (ln 0 j)) = (A 0 i j : EReal)) (h1 : ∀ i j, m1 (ix2 i (ln 1 j)) = (A 1 i j : EReal))
  (hA : ∀ p i j, i ≤ j → A p i j = 0)
include h0 h1 hA

theorem yMat_val (p : Fin 2) (z : FVec Ideal S64x128 .f32) (l : Fin 128) (Z : Fin 64 → ℝ) (hz : ∀ i, z (ix2 i l) = (Z i : EReal)) :
    ∃ Y : Fin 64 → ℝ, (∀ i, yMat (stackL32 (fsInv (diag m0 m1))) (stackL32 (off m0 m1)) (o1 p) (o2 p) z (ix2 i l) = (Y i : EReal))
      ∧ ∀ j, Y j + ∑ i, A p i j * Y i = Z j := by
  have hLe : ∀ e r s, r ≤ s → A p (he e r) (he e s) = 0 := fun e r s h => hA p _ _ (by show 32 * e.val + r.val ≤ 32 * e.val + s.val; have : r.val ≤ s.val := h; omega)
  obtain ⟨T, hT, hTs⟩ : ∃ T : Fin 2 → Fin 32 → Fin 32 → ℝ,
      (∀ e c r, fsInv (diag m0 m1) (ix2 r (ln p (he e c))) = (T e r c : EReal)) ∧
      ∀ e r c, T e r c + ∑ s, A p (he e r) (he e s) * T e s c = if r = c then 1 else 0 :=
    ⟨fun e r c => trec (fun r s => A p (he e r) (he e s)) c 31 r,
      fun e c r => fsInv_val _ _ (hLe e) p e (diag_val m0 m1 A h0 h1 p e) c r,
      fun e r c => trec_solves _ (hLe e) c r⟩
  have hY2 : ∀ r, y2 (stackL32 (fsInv (diag m0 m1))) (o2 p) z (ix2 r l) = ((∑ s, T 1 s r * Z (hiF s) : ℝ) : EReal) := fun r => by
    unfold y2
    refine mm32_val _ _ _ _ _ (fun s => T 1 s r) (fun s => Z (hiF s)) (fun s => ?_) fun s => ?_
    · rw [o2_lane]; exact hT 1 r s
    · pointwise
      exact hz _
  let Y2 : Fin 32 → ℝ := fun r => ∑ s, T 1 s r * Z (hiF s)
  have hY1 : ∀ r, y1 (stackL32 (fsInv (diag m0 m1))) (stackL32 (off m0 m1)) (o1 p) (o2 p) z (ix2 r l)
      = ((∑ s, T 0 s r * (Z (loF s) - ∑ q, A p (hiF q) (loF s) * Y2 q) : ℝ) : EReal) := fun r => by
    unfold y1
    refine mm32_val _ _ _ _ _ (fun s => T 0 s r) (fun s => Z (loF s) - ∑ q, A p (hiF q) (loF s) * Y2 q) (fun s => ?_) fun s => ?_
    · rw [o1_lane]; exact hT 0 r s
    · have e1 := mm32_val (off m0 m1) (y2 (stackL32 (fsInv (diag m0 m1))) (o2 p) z) (o1 p) s l (fun q => A p (hiF q) (loF s)) Y2
        (fun q => by rw [o1_lane, he_lo]; exact off_val m0 m1 A h0 h1 p q _) hY2
      rw [EReal.coe_sub, ← e1, ← hz]
      pointwise
      rfl
  let Y1 : Fin 32 → ℝ := fun r => ∑ s, T 0 s r * (Z (loF s) - ∑ q, A p (hiF q) (loF s) * Y2 q)
  let Y : Fin 64 → ℝ := fun i => if h : i.val < 32 then Y1 ⟨i.val, h⟩ else Y2 ⟨i.val - 32, by omega⟩
  have eY1 : ∀ r, Y (loF r) = Y1 r := fun r => dif_pos r.isLt
  have eY2 : ∀ r, Y (hiF r) = Y2 r := fun r => (dif_neg (by show ¬ 32 + r.val < 32; omega)).trans (congrArg Y2 (Fin.ext (by show 32 + r.val - 32 = r.val; omega)))
  refine ⟨Y, fun i => ?_, fun j => ?_⟩
  · unfold yMat
    pointwise
    by_cases h : i.val < 32
    · rw [dif_pos h, show Y i = Y1 ⟨i.val, h⟩ from dif_pos h]; exact hY1 _
    · rw [dif_neg h, show Y i = Y2 ⟨i.val - 32, by omega⟩ from dif_neg h]; exact hY2 _
  · refine solve64 (A p) (hA p) (T 0) (T 1) (fun r c => ?_) (fun r c => ?_) Z Y (fun r => eY2 r) (fun r => ?_) j
    · have := hTs 0 r c
      simp only [he_lo] at this
      exact this
    · exact hTs 1 r c
    · simp only [eY2]; exact eY1 r

end solve

end Cert.Body

end
-- ==== Proof.KUnit.lean ====
/- One unit of the kernel over the ideal reading: with real inputs its outputs and its new state are the chunk's. -/
module

public import proofs.«01_k».proof.Proof.KSolve

@[expose] public section

set_option maxRecDepth 16384

noncomputable section

namespace Cert.Body

open Idealize.ShloMosaic Cert.KernelIdeal

theorem mmS_apply (l : FVec Ideal S128x256 .bf16) (r : FVec Ideal S256x512 .bf16) (i : Fin 128) (c : Fin 512) :
    mmS l r (ix2 i c) = ∑ d, l (ix2 i d) * r (ix2 d c) := by
  unfold mmS
  pointwise

section x
variable (k8 q8 : FVec Ideal S64x256 .fp8e4m3) (st : FVec Ideal S256x512 .f32) (S : Fin 256 → Fin 512 → ℝ)
  (hS : ∀ d c, st (ix2 d c) = (S d c : EReal))
include hS

theorem xMat_apply (X : Fin 256 → ℝ) (i : Fin 128) (c : Fin 512)
    (hX : ∀ d, (concatenate S128x256 0 [⟨S64x256, wide k8⟩, ⟨S64x256, wide q8⟩] (by simp only [List.map]; decide) : FVec Ideal S128x256 .bf16) (ix2 i d) = (X d : EReal)) :
    xMat k8 q8 st (ix2 i c) = ((∑ d, X d * S d c : ℝ) : EReal) := by
  show mmS _ _ _ + mmS _ _ _ + mmS _ _ _ = _
  rw [mmS_apply, mmS_apply, mmS_apply]
  simp only [hX, hi_val, hS, mid_val _ _ _ (hS _ _), lo_val _ _ _ (hS _ _), mul_zero, Finset.sum_const_zero, add_zero, ← EReal.coe_mul, sum_coe]

theorem xMat_k (X : Fin 64 → Fin 256 → ℝ) (hk : ∀ i d, k8 (ix2 i d) = (X i d : EReal)) (i : Fin 64) (c : Fin 512) :
    xMat k8 q8 st (ix2 (ln 0 i) c) = ((∑ d, X i d * S d c : ℝ) : EReal) := by
  refine xMat_apply k8 q8 st S hS (X i) _ c fun d => ?_
  pointwise
  rw [dif_pos (by show 64 * 0 + i.val < 64; omega)]
  refine Eq.trans ?_ (hk i d)
  show k8 _ = _
  congr 2; exact Fin.ext (by show 64 * 0 + i.val = i.val; omega)
theorem xMat_q (X : Fin 64 → Fin 256 → ℝ) (hq : ∀ i d, q8 (ix2 i d) = (X i d : EReal)) (i : Fin 64) (c : Fin 512) :
    xMat k8 q8 st (ix2 (ln 1 i) c) = ((∑ d, X i d * S d c : ℝ) : EReal) := by
  refine xMat_apply k8 q8 st S hS (X i) _ c fun d => ?_
  pointwise
  rw [dif_neg (by show ¬ 64 * 1 + i.val < 64; omega)]
  refine Eq.trans ?_ (hq i d)
  show q8 _ = _
  congr 2; exact Fin.ext (by show 64 * 1 + i.val - 64 = i.val; omega)
end x

theorem trMat_val (y : FVec Ideal S64x128 .f32) (r : FVec Ideal S64x512 .f32) (l : Fin 128) (c : Fin 512) (Y R : Fin 64 → ℝ)
    (hy : ∀ i, y (ix2 i l) = (Y i : EReal)) (hr : ∀ i, r (ix2 i c) = (R i : EReal)) :
    trMat y r (ix2 l c) = ((∑ i, Y i * R i : ℝ) : EReal) := by
  unfold trMat stackL64 stackR64
  pointwise
  rw [sum_head 64 320 _ fun i hi => by
    have h1 : ¬ i.val < 64 := by omega
    simp only [h1, dite_false, hi_val, hy, hr, mid_val _ _ _ (hy _), mid_val _ _ _ (hr _), lo_val _ _ _ (hy _), lo_val _ _ _ (hr _)]
    split_ifs <;> simp]
  simp only [Fin.is_lt, dite_true, hi_val, hy, hr, ← EReal.coe_mul, sum_coe]

theorem half_apply (x : FVec Ideal S128x512 .f32) (o : Fin 2) (i : Fin 64) (c : Fin 512) : half x o (ix2 i c) = x (ix2 (ln o i) c) := by
  unfold half
  pointwise
  rfl

theorem sMat_val (k8 : FVec Ideal S64x256 .fp8e4m3) (dec : FVec Ideal S1x1 .f32) (st : FVec Ideal S256x512 .f32) (vd : FVec Ideal S64x512 .f32)
    (d : Fin 256) (c : Fin 512) (X Z : Fin 64 → ℝ) (D s : ℝ) (hk : ∀ i, k8 (ix2 i d) = (X i : EReal)) (hv : ∀ i, vd (ix2 i c) = (Z i : EReal))
    (hd : dec (ix2 0 0) = (D : EReal)) (hs : st (ix2 d c) = (s : EReal)) :
    sMat k8 dec st vd (ix2 d c) = ((D * s + ∑ j, X j * Z j : ℝ) : EReal) := by
  have hw : ∀ i, wide k8 (ix2 i d) = (X i : EReal) := hk
  unfold sMat
  pointwise
  rw [sum_head 64 128 _ fun i hi => by
    have h1 : ¬ i.val < 64 := by omega
    simp only [h1, dite_false, mid_val _ _ _ (hv _), lo_val _ _ _ (hv _), hw]
    split_ifs <;> simp]
  simp only [Fin.is_lt, dite_true, hi_val, hw, hv, hd, hs, ← EReal.coe_mul, sum_coe, ← EReal.coe_add]

section unit
variable {C : Chunk} {u : Fin 6} {k q : FVec Ideal S64x256 .bf16} {v : FVec Ideal S64x512 .bf16} {g b : FVec Ideal S6x128 .f32} (h : UIn C u k q v g b)
  (m0 m1 : FVec Ideal S64x128 .f32) (A : Fin 2 → Fin 64 → Fin 64 → ℝ)
  (h0 : ∀ i j, m0 (ix2 i (ln 0 j)) = (A 0 i j : EReal)) (h1 : ∀ i j, m1 (ix2 i (ln 1 j)) = (A 1 i j : EReal))
  (hA : ∀ p i j, i ≤ j → A p i j = 0) (p : Fin 2) (hp : A p = C.A)
  (st : FVec Ideal S256x512 .f32) (S : Fin 256 → Fin 512 → ℝ) (hS : ∀ d c, st (ix2 d c) = (S d c : EReal))
include h h0 h1 hA hp hS

theorem uR_val (i : Fin 64) (c : Fin 512) :
    rMat v (ckCol (norms k) (scale (amax k)) (Cert.Body.gCol g u)) (uX k q st) (ix2 i c) = (C.R S i c : EReal) := by
  have e := xMat_k (codes k) (codes q) st S hS _ (codes_val k C.K h.k) i c
  have e0 : ∀ h, (⟨i.val, h⟩ : Fin 128) = ln 0 i := fun h => Fin.ext (by show i.val = 64 * 0 + i.val; omega)
  unfold rMat uX
  pointwise
  simp only [e0]
  rw [e, ckCol_val h, h.v, ← EReal.coe_mul, ← EReal.coe_sub]
  rfl

theorem uTr_val (l : Fin 128) (Z : Fin 64 → ℝ) (hZ : ∀ i, uZ p u k q g b (ix2 i l) = (Z i : EReal)) (c : Fin 512) :
    uTr p u m0 m1 k q v g b st (ix2 l c) = ((∑ j, Z j * C.W S j c : ℝ) : EReal) := by
  obtain ⟨Y, hY, hs⟩ := yMat_val m0 m1 A h0 h1 hA p _ l Z hZ
  rw [← dot_solve C.A Z Y (fun j => C.W S j c) (fun i => C.R S i c) (fun j => hp ▸ hs j) (fun i => C.W_solves S c i)]
  exact trMat_val _ _ l c Y (fun i => C.R S i c) hY (fun i => uR_val h m0 m1 A h0 h1 hA p hp st S hS i c)

theorem uO_val (i : Fin 64) (c : Fin 512) : uO p u m0 m1 k q v g b st (ix2 i c) = (C.out S i c : EReal) := by
  have e := xMat_q (codes k) (codes q) st S hS _ (codes_val q C.Q h.q) i c
  have et := uTr_val h m0 m1 A h0 h1 hA p hp st S hS (ln (1 - p) i) (fun j => C.P j i * C.b j) (fun j => uZ_p h p j i) c
  have ep : (bif Nat.beq p.val 0 then 1 else 0 : Fin 2) = 1 - p := by fin_cases p <;> rfl
  unfold uO oMat
  rw [hi_val, ep]
  show (broadcastTo S64x512 _ _ (ix2 i c)) * half _ _ _ + half _ _ _ = _
  rw [half_apply, half_apply, et, show uX k q st (ix2 (ln 1 i) c) = _ from e,
    show broadcastTo S64x512 (cqCol (norms q) (scale (amax q)) (Cert.Body.gCol g u)) _ (ix2 i c) = cqCol (norms q) (scale (amax q)) (Cert.Body.gCol g u) (ix2 i 0) from by pointwise,
    cqCol_val h, ← EReal.coe_mul, ← EReal.coe_add]
  rfl

theorem uS_val (d : Fin 256) (c : Fin 512) : uS p u m0 m1 k q v g b st (ix2 d c) = (C.next S d c : EReal) := by
  have ep : (bif Nat.beq p.val 0 then 0 else 1 : Fin 2) = p := by fin_cases p <;> rfl
  unfold uS
  refine sMat_val _ _ _ _ d c (fun j => cOf C.K j d) (fun j => C.a j * C.W S j c) _ _ (fun j => codes_val k C.K h.k j d) (fun j => ?_) (decU_val h) (hS d c)
  rw [ep, half_apply, uTr_val h m0 m1 A h0 h1 hA p hp st S hS (ln p j) (fun i => if i = j then C.a i else 0) (fun i => uZ_a h p i j) c]
  congr 1
  simp only [ite_mul, zero_mul]
  rw [Finset.sum_ite_eq', if_pos (Finset.mem_univ _)]

end unit

end Cert.Body

end
-- ==== Proof.KStep.lean ====
/- The six units of one chunk in the kernel over the ideal reading, the quantised final state, and the real data the
   whole computation is a function of. -/
module

public import proofs.«01_k».proof.Proof.KUnit

@[expose] public section

set_option maxRecDepth 16384

noncomputable section

namespace Cert.Body

open Idealize.ShloMosaic Cert.KernelIdeal

/-- The real data: queries, keys, values, gates and step sizes by batch, position and head, and the starting states. -/
structure Data where
  q : Fin 3 → Fin 640 → Fin 6 → Fin 256 → ℝ
  k : Fin 3 → Fin 640 → Fin 6 → Fin 256 → ℝ
  v : Fin 3 → Fin 640 → Fin 6 → Fin 512 → ℝ
  g : Fin 3 → Fin 640 → Fin 6 → ℝ
  b : Fin 3 → Fin 640 → Fin 6 → ℝ
  S0 : Fin 3 → Fin 6 → Fin 256 → Fin 512 → ℝ

namespace Data
variable (D : Data)

/-- Chunk `n` of batch `b`, head `u`. -/
def chunk (b : Fin 3) (u : Fin 6) (n : Fin 10) : Chunk where
  K i d := D.k b (at64 n i) u d
  Q i d := D.q b (at64 n i) u d
  V i c := D.v b (at64 n i) u c
  g i := D.g b (at64 n i) u
  b i := D.b b (at64 n i) u

/-- The state before chunk `n`. -/
def st (b : Fin 3) (u : Fin 6) : ℕ → Fin 256 → Fin 512 → ℝ
  | 0 => D.S0 b u
  | n + 1 => if h : n < 10 then (D.chunk b u ⟨n, h⟩).next (st b u n) else 0

theorem st_succ (b : Fin 3) (u : Fin 6) (n : Fin 10) : D.st b u (n.val + 1) = (D.chunk b u n).next (D.st b u n.val) := dif_pos n.isLt

/-- The final state's scales and codes. -/
def fs (b : Fin 3) (u : Fin 6) (c : Fin 512) : ℝ := qsc (tCol (D.st b u 10) c)
def fc (b : Fin 3) (u : Fin 6) (d : Fin 256) (c : Fin 512) : ℝ := clip (D.st b u 10 d c * (D.fs b u c)⁻¹)
end Data

/-- A pair's two lower triangular parts. -/
def pairA (C : Fin 6 → Chunk) (u : Fin 6) (p : Fin 2) : Fin 64 → Fin 64 → ℝ := (C (if p = 0 then ev u else od u)).A

theorem pr_ev : ∀ u : Fin 6, pr (ev u) = 0 ∧ pr (od u) = 1 ∧ (if pr u = 0 then ev u else od u) = u := by decide

section six
variable {C : Fin 6 → Chunk} {k q : Fin 6 → FVec Ideal S64x256 .bf16} {v : Fin 6 → FVec Ideal S64x512 .bf16} {g b : FVec Ideal S6x128 .f32}
  (h : ∀ u, UIn (C u) u (k u) (q u) (v u) g b) (st : Fin 6 → FVec Ideal S256x512 .f32) (S : Fin 6 → Fin 256 → Fin 512 → ℝ)
  (hS : ∀ u d c, st u (ix2 d c) = (S u d c : EReal))
include h hS

omit hS in
theorem mAll_ev (u : Fin 6) (i j : Fin 64) : mAll k q g b (ev u) (ix2 i (ln 0 j)) = (pairA C u 0 i j : EReal) := by
  unfold mAll; rw [(pr_ev u).1]; exact uM_a (h (ev u)) 0 i j
omit hS in
theorem mAll_od (u : Fin 6) (i j : Fin 64) : mAll k q g b (od u) (ix2 i (ln 1 j)) = (pairA C u 1 i j : EReal) := by
  unfold mAll; rw [(pr_ev u).2.1]; exact uM_a (h (od u)) 1 i j

theorem oAll_val (u : Fin 6) (i : Fin 64) (c : Fin 512) : oAll k q v g b st u (ix2 i c) = ((C u).out (S u) i c : EReal) :=
  uO_val (h u) _ _ (pairA C u) (mAll_ev h u) (mAll_od h u) (fun p i j hij => (C _).A_lower i j hij) (pr u)
    (by unfold pairA; rw [(pr_ev u).2.2]) (st u) (S u) (hS u) i c
theorem sAll_val (u : Fin 6) (d : Fin 256) (c : Fin 512) : sAll k q v g b st u (ix2 d c) = ((C u).next (S u) d c : EReal) :=
  uS_val (h u) _ _ (pairA C u) (mAll_ev h u) (mAll_od h u) (fun p i j hij => (C _).A_lower i j hij) (pr u)
    (by unfold pairA; rw [(pr_ev u).2.2]) (st u) (S u) (hS u) d c
end six

section final
variable (x : FVec Ideal S256x512 .f32) (S : Fin 256 → Fin 512 → ℝ) (hS : ∀ d c, x (ix2 d c) = (S d c : EReal))
include hS

theorem smax_val (c : Fin 512) : smax x (ix2 0 c) = (tCol S c : EReal) := by
  unfold smax cst
  pointwise
  simp only [neg_inf32, hS, abs_coe, fold_max, lit_cl]
  rw [(sup1_coe S c).1, ← EReal.coe_mul]; rfl

theorem sscale_val (c : Fin 512) : scale (smax x) (ix2 0 c) = (qsc (tCol S c) : EReal) := scale_apply _ _ _ (tCol_nonneg S c) (smax_val x S hS c)
theorem scodes_val (d : Fin 256) (c : Fin 512) : scodes x (ix2 d c) = (clip (S d c * (qsc (tCol S c))⁻¹) : EReal) := by
  unfold scodes cst
  pointwise
  rw [inv_apply _ _ _ (tCol_nonneg S c) (smax_val x S hS c)]
  simp only [hS, ← EReal.coe_mul, lit_448, lit_n448, max_coe, min_coe]
  rfl
end final

/-- An arbitrary code clipped to the codes' range. -/
def clipE (x : EReal) : ℝ := (min ((448 : ℝ) : EReal) (max ((-448 : ℝ) : EReal) x)).toReal
theorem clipE_coe (x : EReal) : min ((448 : ℝ) : EReal) (max ((-448 : ℝ) : EReal) x) = (clipE x : EReal) := by
  unfold clipE
  rw [EReal.coe_toReal]
  · exact ne_of_lt (lt_of_le_of_lt (min_le_left _ _) (EReal.coe_lt_top _))
  · exact ne_of_gt (lt_of_lt_of_le (EReal.bot_lt_coe (-448)) (le_min (EReal.coe_le_coe_iff.mpr (by norm_num)) (le_max_left _ _)))

theorem st0_val (s : FVec Ideal S1x1x256x512 .fp8e4m3) (ss : FVec Ideal S1x1x512 .f32) (d : Fin 256) (c : Fin 512) (r : ℝ)
    (hs : ss (ix3 0 0 c) = (r : EReal)) : st0 s ss (ix2 d c) = ((clipE (s (ix4 0 0 d c)) * r : ℝ) : EReal) := by
  unfold st0 cst
  pointwise
  rw [hs, lit_448, lit_n448, clipE_coe, EReal.coe_mul]

end Cert.Body

end
-- ==== Proof.Fold.lean ====
/- The whole kernel over the ideal reading: what its buffers hold after each grid point, and the seven result arrays, as
   functions of the real data. -/
module

public import proofs.«01_k».proof.Proof.KStep
public import proofs.«01_k».proof.Proof.Point
public import proofs.«01_k».proof.Proof.Gen.KernelIdeal.Value
public import Idealize.ShloMosaic.Lib.Pipeline.ValueKit

@[expose] public section

set_option maxRecDepth 16384

noncomputable section

namespace Cert.Body

open Idealize.ShloMosaic Idealize.ShloMosaic.TcCoe Cert.KernelIdeal Cert.KernelIdeal.Gen

/-! ## One point -/

/-- The point's input blocks hold chunk `n` of batch `b` of the data. -/
structure Blk (D : Data) (b : Fin 3) (n : Fin 10) (x0 x1 : Vec Ideal S1x6x64x256 .bf16) (x2 : Vec Ideal S1x6x64x512 .bf16)
    (x3 x4 : Vec Ideal S1x6x640 .f32) : Prop where
  q : ∀ u i d, x0 (ix4 0 u i d) = (D.q b (at64 n i) u d : EReal)
  k : ∀ u i d, x1 (ix4 0 u i d) = (D.k b (at64 n i) u d : EReal)
  v : ∀ u i d, x2 (ix4 0 u i d) = (D.v b (at64 n i) u d : EReal)
  g : ∀ u s, x3 (ix3 0 u s) = (D.g b s u : EReal)
  b : ∀ u s, x4 (ix3 0 u s) = (D.b b s u : EReal)

/-- What the point leaves: its chunk's outputs, the codes and scales of keys and queries, the new state, and at the last
    chunk the quantised state. -/
structure After (D : Data) (b : Fin 3) (n : Fin 10) (o : Vec Ideal S1x6x64x512 .bf16) (sf : Vec Ideal S1x6x256x512 .fp8e4m3)
    (sfs : Vec Ideal S1x6x512 .f32) (kc : Vec Ideal S1x6x64x256 .fp8e4m3) (ks : Vec Ideal S1x6x10 .f32)
    (qc : Vec Ideal S1x6x64x256 .fp8e4m3) (qs : Vec Ideal S1x6x10 .f32) (s : Vec Ideal S6x256x512 .f32) : Prop where
  o : ∀ u i c, o (ix4 0 u i c) = ((D.chunk b u n).out (D.st b u n.val) i c : EReal)
  sf : n.val = 9 → ∀ u d c, sf (ix4 0 u d c) = (D.fc b u d c : EReal)
  sfs : n.val = 9 → ∀ u c, sfs (ix3 0 u c) = (D.fs b u c : EReal)
  kc : ∀ u i d, kc (ix4 0 u i d) = (cOf (D.chunk b u n).K i d : EReal)
  ks : ∀ u (j : Fin 10), j.val ≤ n.val → ks (ix3 0 u j) = (sOf (D.chunk b u j).K : EReal)
  qc : ∀ u i d, qc (ix4 0 u i d) = (cOf (D.chunk b u n).Q i d : EReal)
  qs : ∀ u (j : Fin 10), j.val ≤ n.val → qs (ix3 0 u j) = (sOf (D.chunk b u j).Q : EReal)
  s : ∀ u d c, s (ix3 u d c) = (D.st b u (n.val + 1) d c : EReal)

theorem iota_mask : ∀ n j : Fin 10, IntOp.cmpi .eq (BitVec.ofNat 32 j.val) (BitVec.ofNat 32 n.val) = BitVec.ofBool (decide (j = n)) := by
  decide +kernel

theorem setS_val (n j : Fin 10) (s : FVec Ideal S1x1 .f32) (old : FVec Ideal S1x1x10 .f32) :
    setS (BitVec.ofNat 32 n.val) s old (ix3 0 0 j) = if j = n then s (ix2 0 0) else old (ix3 0 0 j) := by
  unfold setS
  pointwise
  simp only [iota_mask, select_of]

section point
variable {D : Data} {b : Fin 3} {n : Fin 10} {x0 x1 : Vec Ideal S1x6x64x256 .bf16} {x2 : Vec Ideal S1x6x64x512 .bf16}
    {x3 x4 : Vec Ideal S1x6x640 .f32} (h : Blk D b n x0 x1 x2 x3 x4)
include h

theorem Blk.uin (u : Fin 6) : UIn (D.chunk b u n) u (pK x1 u) (pK x0 u) (pV x2 u) (pG n x3) (pB n x4) where
  k i d := h.k u i d
  q i d := h.q u i d
  v i d := h.v u i d
  g l := pG_val n x3 u (fun s => D.g b s u) (h.g u) l
  b l := pB_val n x4 u (fun s => D.b b s u) (h.b u) l

variable (st : Fin 6 → FVec Ideal S256x512 .f32) (hst : ∀ u d c, st u (ix2 d c) = (D.st b u n.val d c : EReal))
omit h in
theorem bR_val (X : Fin 10 → Fin 6 → Fin 64 → Fin 256 → ℝ) (x : Vec Ideal S1x6x64x256 .bf16) (old : Vec Ideal S1x6x10 .f32)
    (hx : ∀ u i d, x (ix4 0 u i d) = (X n u i d : EReal))
    (hold : ∀ u (j : Fin 10), j.val < n.val → old (ix3 0 u j) = (sOf (X j u) : EReal)) (u : Fin 6) (j : Fin 10) (hj : j.val ≤ n.val) :
    bR n x old (ix3 0 u j) = (sOf (X j u) : EReal) := by
  refine (setS_val n j _ _).trans ?_
  split_ifs with e
  · rw [e]; exact scale_val _ _ (fun i d => hx u i d)
  · exact hold u j (by have : j.val ≠ n.val := fun e' => e (Fin.ext e'); omega)

include hst
/-- A point whose buffers before it hold the state before its chunk and the earlier chunks' scales. -/
theorem Blk.after (sf sfs) (ks0 qs0 : Vec Ideal S1x6x10 .f32)
    (hks : ∀ u (j : Fin 10), j.val < n.val → ks0 (ix3 0 u j) = (sOf (D.chunk b u j).K : EReal))
    (hqs : ∀ u (j : Fin 10), j.val < n.val → qs0 (ix3 0 u j) = (sOf (D.chunk b u j).Q : EReal))
    (hsf : n.val = 9 → sf = bSf (stepS n x0 x1 x2 x3 x4 st)) (hsfs : n.val = 9 → sfs = bSfs (stepS n x0 x1 x2 x3 x4 st)) :
    After D b n (bO (stepO n x0 x1 x2 x3 x4 st)) sf sfs (bC x1) (bR n x1 ks0) (bC x0) (bR n x0 qs0) (bS (stepS n x0 x1 x2 x3 x4 st)) := by
  have hs : ∀ u d c, stepS n x0 x1 x2 x3 x4 st u (ix2 d c) = (D.st b u (n.val + 1) d c : EReal) := fun u d c => by
    rw [Data.st_succ]; exact sAll_val h.uin st _ hst u d c
  refine ⟨fun u i c => oAll_val h.uin st _ hst u i c, fun e u d c => ?_, fun e u c => ?_, fun u i d => codes_val _ _ (h.uin u).k i d,
    bR_val (fun j u => (D.chunk b u j).K) x1 ks0 h.k hks, fun u i d => codes_val _ _ (h.uin u).q i d,
    bR_val (fun j u => (D.chunk b u j).Q) x0 qs0 h.q hqs, hs⟩
  · rw [hsf e]; refine (scodes_val _ _ (hs u) d c).trans ?_; rw [e]; rfl
  · rw [hsfs e]; refine (sscale_val _ _ (hs u) c).trans ?_; rw [e]; rfl
end point

/-! ## The arrays the kernel reads -/

/-- The argument arrays hold the data; a starting state is its clipped codes times its scales. -/
structure Is (D : Data) (a0 a1 : FVec Ideal S3x640x6x256 .bf16) (a2 : FVec Ideal S3x640x6x512 .bf16) (a3 a4 : FVec Ideal S3x640x6 .f32)
    (a5 : FVec Ideal S3x6x256x512 .fp8e4m3) (a6 : FVec Ideal S3x6x512 .f32) : Prop where
  q : ∀ b s u d, a0 (ix4 b s u d) = (D.q b s u d : EReal)
  k : ∀ b s u d, a1 (ix4 b s u d) = (D.k b s u d : EReal)
  v : ∀ b s u d, a2 (ix4 b s u d) = (D.v b s u d : EReal)
  g : ∀ b s u, a3 (ix3 b s u) = (D.g b s u : EReal)
  b : ∀ b s u, a4 (ix3 b s u) = (D.b b s u : EReal)
  S0 : ∀ b u d c, ∃ r : ℝ, a6 (ix3 b u c) = (r : EReal) ∧ D.S0 b u d c = clipE (a5 (ix4 b u d c)) * r

/-- A position's chunk and its place in the chunk. -/
def ch (s : Fin 640) : Fin 10 := ⟨s.val / 64, by omega⟩
def po (s : Fin 640) : Fin 64 := ⟨s.val % 64, Nat.mod_lt _ (by decide)⟩

variable (m : (ℓ : Loc nD τ sig) → Buf (Elt Ideal) ℓ) (c : Dev nD)

theorem idx : ∀ t : Fin cfg0.N, win0_0.index t = ![t.val / 10, 0, t.val % 10, 0] ∧ win0_1.index t = ![t.val / 10, 0, t.val % 10, 0]
    ∧ win0_2.index t = ![t.val / 10, 0, t.val % 10, 0] ∧ win0_3.index t = ![t.val / 10, 0, 0] ∧ win0_4.index t = ![t.val / 10, 0, 0]
    ∧ win0_5.index t = ![t.val / 10, 0, 0, 0] ∧ win0_6.index t = ![t.val / 10, 0, 0] := by decide +kernel

theorem lt30 (t : Fin cfg0.N) : t.val < 30 := lt_of_lt_of_eq t.isLt N_0
def bt (t : Fin cfg0.N) : Fin 3 := ⟨t.val / 10, by have := lt30 t; omega⟩
def nt (t : Fin cfg0.N) : Fin 10 := ⟨t.val % 10, Nat.mod_lt _ (by decide)⟩

theorem crd (t : Fin cfg0.N) : (grid0.coords t) 1 = nt t :=
  Fin.ext ((by decide +kernel : ∀ t : Fin cfg0.N, ((grid0.coords t) 1 : ℕ) = t.val % 10) t)

theorem V0 (b : Fin 3) (u : Fin 6) (s : Fin 640) (d : Fin 256) : V m c main_v0 (ix4 b u s d) = m ((c : Thread nD τ).loc main_arg0) (ix4 b s u d) := by
  entry_read; pointwise
theorem V1 (b : Fin 3) (u : Fin 6) (s : Fin 640) (d : Fin 256) : V m c main_v1 (ix4 b u s d) = m ((c : Thread nD τ).loc main_arg1) (ix4 b s u d) := by
  entry_read; pointwise
theorem V2 (b : Fin 3) (u : Fin 6) (s : Fin 640) (d : Fin 512) : V m c main_v2 (ix4 b u s d) = m ((c : Thread nD τ).loc main_arg2) (ix4 b s u d) := by
  entry_read; pointwise
theorem V3 (b : Fin 3) (u : Fin 6) (s : Fin 640) : V m c main_v3 (ix3 b u s) = m ((c : Thread nD τ).loc main_arg3) (ix3 b s u) := by
  entry_read; pointwise
theorem V4 (b : Fin 3) (u : Fin 6) (s : Fin 640) : V m c main_v4 (ix3 b u s) = m ((c : Thread nD τ).loc main_arg4) (ix3 b s u) := by
  entry_read; pointwise

theorem blk0 (t : Fin cfg0.N) (u : Fin 6) (i : Fin 64) (d : Fin 256) : iblk m c 0 t (ix4 0 u i d) = V m c main_v0 (ix4 (bt t) u (at64 (nt t) i) d) := by
  blk_ext [iblk, idx t, bt, nt, at64]
theorem blk1 (t : Fin cfg0.N) (u : Fin 6) (i : Fin 64) (d : Fin 256) : iblk m c 1 t (ix4 0 u i d) = V m c main_v1 (ix4 (bt t) u (at64 (nt t) i) d) := by
  blk_ext [iblk, idx t, bt, nt, at64]
theorem blk2 (t : Fin cfg0.N) (u : Fin 6) (i : Fin 64) (d : Fin 512) : iblk m c 2 t (ix4 0 u i d) = V m c main_v2 (ix4 (bt t) u (at64 (nt t) i) d) := by
  blk_ext [iblk, idx t, bt, nt, at64]
theorem blk3 (t : Fin cfg0.N) (u : Fin 6) (s : Fin 640) : iblk m c 3 t (ix3 0 u s) = V m c main_v3 (ix3 (bt t) u s) := by
  blk_ext [iblk, idx t, bt, nt, at64]
theorem blk4 (t : Fin cfg0.N) (u : Fin 6) (s : Fin 640) : iblk m c 4 t (ix3 0 u s) = V m c main_v4 (ix3 (bt t) u s) := by
  blk_ext [iblk, idx t, bt, nt, at64]
theorem blk5 (t : Fin cfg0.N) (u : Fin 6) (d : Fin 256) (e : Fin 512) : iblk m c 5 t (ix4 0 u d e) = V m c main_arg5 (ix4 (bt t) u d e) := by
  blk_ext [iblk, idx t, bt, nt, at64]
theorem blk6 (t : Fin cfg0.N) (u : Fin 6) (e : Fin 512) : iblk m c 6 t (ix3 0 u e) = V m c main_arg6 (ix3 (bt t) u e) := by
  blk_ext [iblk, idx t, bt, nt, at64]

section run
variable {m c} {D : Data} (hI : Is D (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)))
include hI

theorem blk (t : Fin cfg0.N) : Blk D (bt t) (nt t) (iblk m c 0 t) (iblk m c 1 t) (iblk m c 2 t) (iblk m c 3 t) (iblk m c 4 t) where
  q u i d := by rw [blk0, V0]; exact hI.q _ _ _ _
  k u i d := by rw [blk1, V1]; exact hI.k _ _ _ _
  v u i d := by rw [blk2, V2]; exact hI.v _ _ _ _
  g u s := by rw [blk3, V3]; exact hI.g _ _ _
  b u s := by rw [blk4, V4]; exact hI.b _ _ _

theorem start (t : Fin cfg0.N) (u : Fin 6) (d : Fin 256) (e : Fin 512) :
    pI (iblk m c 5 t) (iblk m c 6 t) u (ix2 d e) = (D.S0 (bt t) u d e : EReal) := by
  obtain ⟨r, hr, hs⟩ := hI.S0 (bt t) u d e
  unfold pI
  rw [st0_val _ _ d e r ((blk6 m c t u e).trans ((congrFun (V_main_arg6 m c) _).trans hr)), hs]
  show ((clipE (iblk m c 5 t (ix4 0 u d e)) * r : ℝ) : EReal) = _
  rw [blk5, V_main_arg5]

theorem caseA (t : Fin cfg0.N) (h0 : t.val % 10 = 0) : After D (bt t) (nt t) (outsAt0 m c t.val t.isLt).1 (outsAt0 m c t.val t.isLt).2.1 (outsAt0 m c t.val t.isLt).2.2.1
    (outsAt0 m c t.val t.isLt).2.2.2.1 (outsAt0 m c t.val t.isLt).2.2.2.2.1 (outsAt0 m c t.val t.isLt).2.2.2.2.2.1 (outsAt0 m c t.val t.isLt).2.2.2.2.2.2.1
    (outsAt0 m c t.val t.isLt).2.2.2.2.2.2.2 := by
  have h1 : ¬ t.val % 10 = 9 := by omega
  have hn : (nt t).val = 0 := h0
  rw [outsAt0_A m c t h0 h1]
  dsimp only
  rw [out0_A_7_eq, out0_A_10_eq, out0_A_11_eq, out0_A_12_eq, out0_A_13_eq, sout0_A_0_eq, crd t]
  exact (blk hI t).after _ (fun u d e => by rw [hn]; exact start hI t u d e) _ _ _ _ (fun _ j hj => by omega) (fun _ j hj => by omega)
    (fun e => by omega) (fun e => by omega)

theorem caseBC (t : Fin cfg0.N) (h0 : ¬ t.val % 10 = 0) {n'}
    (hn' : n' = t.val - 1) (hp : ∀ h : n' < cfg0.N, After D (bt ⟨n', h⟩) (nt ⟨n', h⟩) (outsAt0 m c n' h).1 (outsAt0 m c n' h).2.1 (outsAt0 m c n' h).2.2.1
    (outsAt0 m c n' h).2.2.2.1 (outsAt0 m c n' h).2.2.2.2.1 (outsAt0 m c n' h).2.2.2.2.2.1 (outsAt0 m c n' h).2.2.2.2.2.2.1
    (outsAt0 m c n' h).2.2.2.2.2.2.2)
    : After D (bt t) (nt t) (outsAt0 m c t.val t.isLt).1 (outsAt0 m c t.val t.isLt).2.1 (outsAt0 m c t.val t.isLt).2.2.1
    (outsAt0 m c t.val t.isLt).2.2.2.1 (outsAt0 m c t.val t.isLt).2.2.2.2.1 (outsAt0 m c t.val t.isLt).2.2.2.2.2.1 (outsAt0 m c t.val t.isLt).2.2.2.2.2.2.1
    (outsAt0 m c t.val t.isLt).2.2.2.2.2.2.2 := by
  subst hn'
  rcases e : outsAt0 m c t.val t.isLt with ⟨o, sf, sfs, kc, ks, qc, qs, s⟩
  have hlt : t.val - 1 < cfg0.N := Nat.lt_of_le_of_lt (Nat.sub_le _ _) t.isLt
  have hb : bt ⟨t.val - 1, hlt⟩ = bt t := Fin.ext (by show (t.val - 1) / 10 = t.val / 10; omega)
  have hv : (nt ⟨t.val - 1, hlt⟩).val + 1 = (nt t).val := by show (t.val - 1) % 10 + 1 = t.val % 10; omega
  have hp := hp hlt
  rw [hb] at hp
  have hst : ∀ u d e, pS (outsAt0 m c (t.val - 1) hlt).2.2.2.2.2.2.2 u (ix2 d e) = (D.st (bt t) u (nt t).val d e : EReal) := fun u d e => by
    rw [← hv]; exact hp.s u d e
  by_cases h1 : t.val % 10 = 9
  · rw [outsAt0_C m c t h0 h1] at e
    rw [out0_C_7_eq, out0_C_8_eq, out0_C_9_eq, out0_C_10_eq, out0_C_11_eq, out0_C_12_eq, out0_C_13_eq, sout0_C_0_eq, crd t] at e
    simp only [Prod.mk.injEq] at e
    obtain ⟨rfl, e8, e9, rfl, rfl, rfl, rfl, rfl⟩ := e
    exact (blk hI t).after _ hst _ _ _ _ (fun u j hj => hp.ks u j (by omega)) (fun u j hj => hp.qs u j (by omega)) (fun _ => e8.symm) (fun _ => e9.symm)
  · have hn : ¬ (nt t).val = 9 := h1
    rw [outsAt0_B m c t h0 h1] at e
    rw [out0_B_7_eq, out0_B_10_eq, out0_B_11_eq, out0_B_12_eq, out0_B_13_eq, sout0_B_0_eq, crd t] at e
    simp only [Prod.mk.injEq] at e
    obtain ⟨rfl, _, _, rfl, rfl, rfl, rfl, rfl⟩ := e
    exact (blk hI t).after _ hst _ _ _ _ (fun u j hj => hp.ks u j (by omega)) (fun u j hj => hp.qs u j (by omega)) (fun e => absurd e hn) (fun e => absurd e hn)

/-- What the run's buffers hold after every point. -/
theorem after_all (n : ℕ) (hn : n < cfg0.N) : After D (bt ⟨n, hn⟩) (nt ⟨n, hn⟩) (outsAt0 m c n hn).1 (outsAt0 m c n hn).2.1 (outsAt0 m c n hn).2.2.1
    (outsAt0 m c n hn).2.2.2.1 (outsAt0 m c n hn).2.2.2.2.1 (outsAt0 m c n hn).2.2.2.2.2.1 (outsAt0 m c n hn).2.2.2.2.2.2.1
    (outsAt0 m c n hn).2.2.2.2.2.2.2 := by
  induction n with
  | zero => exact caseA hI ⟨0, hn⟩ rfl
  | succ n ih =>
    by_cases h0 : (n + 1) % 10 = 0
    · exact caseA hI ⟨n + 1, hn⟩ h0
    · exact caseBC hI ⟨n + 1, hn⟩ h0 (n' := n) (by simp) (fun _ => ih _)

theorem after_at (b : Fin 3) (n : Fin 10) (k : ℕ) (hk : k < cfg0.N) (e : k = 10 * b.val + n.val) : After D b n (outsAt0 m c k hk).1 (outsAt0 m c k hk).2.1 (outsAt0 m c k hk).2.2.1
    (outsAt0 m c k hk).2.2.2.1 (outsAt0 m c k hk).2.2.2.2.1 (outsAt0 m c k hk).2.2.2.2.2.1 (outsAt0 m c k hk).2.2.2.2.2.2.1
    (outsAt0 m c k hk).2.2.2.2.2.2.2 := by
  have h := after_all hI k hk
  rwa [show bt ⟨k, hk⟩ = b from Fin.ext (by show k / 10 = b.val; omega), show nt ⟨k, hk⟩ = n from Fin.ext (by show k % 10 = n.val; omega)] at h

/-! ## The seven results -/

theorem G7_val (b : Fin 3) (u : Fin 6) (s : Fin 640) (e : Fin 512) :
    Value.G7 m c (ix4 b u s e) = ((D.chunk b u (ch s)).out (D.st b u (ch s).val) (po s) e : EReal) := by
  have hb := b.isLt; have hu := u.isLt; have hs := s.isLt; have he := e.isLt
  have hk : Value.pt7Of (ix4 b u s e) = 10 * b.val + (ch s).val := by
    show 10 * (b.val / 1 - 0) + 10 * (u.val / 6 - 0) + 1 * (s.val / 64 - 0) + 1 * (e.val / 512 - 0) = 10 * b.val + s.val / 64; omega
  have hlt : Value.pt7Of (ix4 b u s e) < cfg0.N := lt_of_lt_of_eq (by rw [hk]; show 10 * b.val + s.val / 64 < 30; omega) N_0.symm
  unfold Value.G7
  rw [dif_pos hlt, ← Value.outsAt0_sweep m c _ hlt, ← (after_at hI b (ch s) _ hlt hk).o u (po s) e]
  refine congrArg _ (funext fun a => ?_)
  fin_cases a <;> apply Fin.ext
  · show b.val % 1 = 0; omega
  · show u.val % 6 = u.val; omega
  · rfl
  · show e.val % 512 = e.val; omega

theorem G10_val (b : Fin 3) (u : Fin 6) (s : Fin 640) (e : Fin 256) :
    Value.G10 m c (ix4 b u s e) = (cOf (D.chunk b u (ch s)).K (po s) e : EReal) := by
  have hb := b.isLt; have hu := u.isLt; have hs := s.isLt; have he := e.isLt
  have hk : Value.pt10Of (ix4 b u s e) = 10 * b.val + (ch s).val := by
    show 10 * (b.val / 1 - 0) + 10 * (u.val / 6 - 0) + 1 * (s.val / 64 - 0) + 1 * (e.val / 256 - 0) = 10 * b.val + s.val / 64; omega
  have hlt : Value.pt10Of (ix4 b u s e) < cfg0.N := lt_of_lt_of_eq (by rw [hk]; show 10 * b.val + s.val / 64 < 30; omega) N_0.symm
  unfold Value.G10
  rw [dif_pos hlt, ← Value.outsAt0_sweep m c _ hlt, ← (after_at hI b (ch s) _ hlt hk).kc u (po s) e]
  refine congrArg _ (funext fun a => ?_)
  fin_cases a <;> apply Fin.ext
  · show b.val % 1 = 0; omega
  · show u.val % 6 = u.val; omega
  · rfl
  · show e.val % 256 = e.val; omega

theorem G12_val (b : Fin 3) (u : Fin 6) (s : Fin 640) (e : Fin 256) :
    Value.G12 m c (ix4 b u s e) = (cOf (D.chunk b u (ch s)).Q (po s) e : EReal) := by
  have hb := b.isLt; have hu := u.isLt; have hs := s.isLt; have he := e.isLt
  have hk : Value.pt12Of (ix4 b u s e) = 10 * b.val + (ch s).val := by
    show 10 * (b.val / 1 - 0) + 10 * (u.val / 6 - 0) + 1 * (s.val / 64 - 0) + 1 * (e.val / 256 - 0) = 10 * b.val + s.val / 64; omega
  have hlt : Value.pt12Of (ix4 b u s e) < cfg0.N := lt_of_lt_of_eq (by rw [hk]; show 10 * b.val + s.val / 64 < 30; omega) N_0.symm
  unfold Value.G12
  rw [dif_pos hlt, ← Value.outsAt0_sweep m c _ hlt, ← (after_at hI b (ch s) _ hlt hk).qc u (po s) e]
  refine congrArg _ (funext fun a => ?_)
  fin_cases a <;> apply Fin.ext
  · show b.val % 1 = 0; omega
  · show u.val % 6 = u.val; omega
  · rfl
  · show e.val % 256 = e.val; omega

theorem G8_val (b : Fin 3) (u : Fin 6) (s : Fin 256) (e : Fin 512) : Value.G8 m c (ix4 b u s e) = (D.fc b u s e : EReal) := by
  have hb := b.isLt; have hu := u.isLt; have hs := s.isLt; have he := e.isLt
  have hk : Value.pt8Of (ix4 b u s e) = 10 * b.val + (9 : Fin 10).val := by
    show 10 * (1 * (b.val / 1 - 0) + 1 * (u.val / 6 - 0) + 1 * (s.val / 256 - 0) + 1 * (e.val / 512 - 0)) + 9 = 10 * b.val + 9; omega
  have hlt : Value.pt8Of (ix4 b u s e) < cfg0.N := lt_of_lt_of_eq (by rw [hk]; show 10 * b.val + 9 < 30; omega) N_0.symm
  unfold Value.G8
  rw [dif_pos hlt, ← Value.outsAt0_sweep m c _ hlt, ← (after_at hI b 9 _ hlt hk).sf rfl u s e]
  refine congrArg _ (funext fun a => ?_)
  fin_cases a <;> apply Fin.ext
  · show b.val % 1 = 0; omega
  · show u.val % 6 = u.val; omega
  · show s.val % 256 = s.val; omega
  · show e.val % 512 = e.val; omega

theorem G9_val (b : Fin 3) (u : Fin 6) (e : Fin 512) : Value.G9 m c (ix3 b u e) = (D.fs b u e : EReal) := by
  have hb := b.isLt; have hu := u.isLt; have he := e.isLt
  have hk : Value.pt9Of (ix3 b u e) = 10 * b.val + (9 : Fin 10).val := by
    show 10 * (1 * (b.val / 1 - 0) + 1 * (u.val / 6 - 0) + 1 * (e.val / 512 - 0)) + 9 = 10 * b.val + 9; omega
  have hlt : Value.pt9Of (ix3 b u e) < cfg0.N := lt_of_lt_of_eq (by rw [hk]; show 10 * b.val + 9 < 30; omega) N_0.symm
  unfold Value.G9
  rw [dif_pos hlt, ← Value.outsAt0_sweep m c _ hlt, ← (after_at hI b 9 _ hlt hk).sfs rfl u e]
  refine congrArg _ (funext fun a => ?_)
  fin_cases a <;> apply Fin.ext
  · show b.val % 1 = 0; omega
  · show u.val % 6 = u.val; omega
  · show e.val % 512 = e.val; omega

theorem G11_val (b : Fin 3) (u : Fin 6) (e : Fin 10) : Value.G11 m c (ix3 b u e) = (sOf (D.chunk b u e).K : EReal) := by
  have hb := b.isLt; have hu := u.isLt; have he := e.isLt
  have hk : Value.pt11Of (ix3 b u e) = 10 * b.val + (9 : Fin 10).val := by
    show 10 * (1 * (b.val / 1 - 0) + 1 * (u.val / 6 - 0) + 1 * (e.val / 10 - 0)) + 9 = 10 * b.val + 9; omega
  have hlt : Value.pt11Of (ix3 b u e) < cfg0.N := lt_of_lt_of_eq (by rw [hk]; show 10 * b.val + 9 < 30; omega) N_0.symm
  unfold Value.G11
  rw [dif_pos hlt, ← Value.outsAt0_sweep m c _ hlt, ← (after_at hI b 9 _ hlt hk).ks u e (by show e.val ≤ 9; omega)]
  refine congrArg _ (funext fun a => ?_)
  fin_cases a <;> apply Fin.ext
  · show b.val % 1 = 0; omega
  · show u.val % 6 = u.val; omega
  · show e.val % 10 = e.val; omega

theorem G13_val (b : Fin 3) (u : Fin 6) (e : Fin 10) : Value.G13 m c (ix3 b u e) = (sOf (D.chunk b u e).Q : EReal) := by
  have hb := b.isLt; have hu := u.isLt; have he := e.isLt
  have hk : Value.pt13Of (ix3 b u e) = 10 * b.val + (9 : Fin 10).val := by
    show 10 * (1 * (b.val / 1 - 0) + 1 * (u.val / 6 - 0) + 1 * (e.val / 10 - 0)) + 9 = 10 * b.val + 9; omega
  have hlt : Value.pt13Of (ix3 b u e) < cfg0.N := lt_of_lt_of_eq (by rw [hk]; show 10 * b.val + 9 < 30; omega) N_0.symm
  unfold Value.G13
  rw [dif_pos hlt, ← Value.outsAt0_sweep m c _ hlt, ← (after_at hI b 9 _ hlt hk).qs u e (by show e.val ≤ 9; omega)]
  refine congrArg _ (funext fun a => ?_)
  fin_cases a <;> apply Fin.ext
  · show b.val % 1 = 0; omega
  · show u.val % 6 = u.val; omega
  · show e.val % 10 = e.val; omega
end run

end Cert.Body

end
-- ==== Proof.Finite.lean ====
/- The real data behind the argument arrays: the precondition makes every entry it reads a real number. -/
module

public import proofs.«01_k».proof.Defs
public import proofs.«01_k».proof.Proof.Gen.Pre_finite
public import proofs.«01_k».proof.Proof.Fold
public import Idealize.ShloMosaic.Lib.ReduceAll

@[expose] public section

set_option maxRecDepth 16384

noncomputable section

namespace Cert.Body

open Idealize.ShloMosaic

theorem inf32 : Ideal.ofBits .f32 0x7F800000#32 = (⊤ : EReal) := by simp [Ideal.ofBits, Ideal.ieee]
theorem inf16 : Ideal.ofBits .bf16 0x7F80#16 = (⊤ : EReal) := by simp [Ideal.ofBits, Ideal.ieee]

theorem andi1 (a b : BitVec 1) (h : IntOp.andi a b = 1#1) : a = 1#1 ∧ b = 1#1 := by
  revert h; revert a b; decide

/-- An entry strictly between the infinities is a real. -/
theorem real_of {s : Shape} {φ : FTy} (x b : FVec Ideal s φ) (i : s.Idx) (hb : b i = (⊤ : EReal)) (h : cmpf .olt (Host.absf x) b i = 1#1) :
    ∃ r : ℝ, x i = (r : EReal) := by
  have h' : BitVec.ofBool (decide (max (x i : EReal) (-(x i : EReal)) < (b i : EReal))) = 1#1 := h
  rw [hb] at h'
  have hlt : max (x i : EReal) (-(x i : EReal)) < ⊤ := by
    by_contra hc
    rw [decide_eq_false hc] at h'
    exact absurd h' (by decide)
  obtain ⟨h1, h2⟩ := max_lt_iff.mp hlt
  refine ⟨(x i : EReal).toReal, (EReal.coe_toReal h1.ne ?_).symm⟩
  intro hbot
  rw [hbot] at h2
  exact absurd h2 (by simp)

section pre
open Cert.Pre_finite Cert.Pre_finite.Facts
variable [Cert.Pre_finite.Facts] (a0 a1 : FVec Ideal S3x640x6x256 .bf16) (a2 : FVec Ideal S3x640x6x512 .bf16) (a3 a4 : FVec Ideal S3x640x6 .f32)
    (a5 : FVec Ideal S3x6x256x512 .fp8e4m3) (a6 : FVec Ideal S3x6x512 .f32)

instance : Subsingleton S_.Idx := ⟨fun a b => funext fun x => x.elim0⟩

/-- All entries the precondition names are reals. -/
theorem pre_real (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a6 i = (r : EReal)) := by
  have h0 := congrFun h (fun x => x.elim0)
  dsimp only [fn, fn_part1] at h0
  obtain ⟨h0, e6⟩ := andi1 _ _ h0
  obtain ⟨h0, e4⟩ := andi1 _ _ h0
  obtain ⟨h0, e3⟩ := andi1 _ _ h0
  obtain ⟨h0, e2⟩ := andi1 _ _ h0
  obtain ⟨e0, e1⟩ := andi1 _ _ h0
  exact ⟨fun i => real_of a0 _ i inf16 (Host.reduce_andi_all _ _ _ _ _ e0 i), fun i => real_of a1 _ i inf16 (Host.reduce_andi_all _ _ _ _ _ e1 i),
    fun i => real_of a2 _ i inf16 (Host.reduce_andi_all _ _ _ _ _ e2 i), fun i => real_of a3 _ i inf32 (Host.reduce_andi_all _ _ _ _ _ e3 i),
    fun i => real_of a4 _ i inf32 (Host.reduce_andi_all _ _ _ _ _ e4 i), fun i => real_of a6 _ i inf32 (Host.reduce_andi_all _ _ _ _ _ e6 i)⟩

/-- So the arrays hold real data. -/
theorem is_of_pre (h : fn (F := Ideal) a0 a1 a2 a3 a4 a5 a6 = fun _ => 1#1) : ∃ D, Is D a0 a1 a2 a3 a4 a5 a6 := by
  obtain ⟨h0, h1, h2, h3, h4, h6⟩ := pre_real a0 a1 a2 a3 a4 a5 a6 h
  choose r0 h0 using h0
  choose r1 h1 using h1
  choose r2 h2 using h2
  choose r3 h3 using h3
  choose r4 h4 using h4
  choose r6 h6 using h6
  exact ⟨⟨fun b s u d => r0 (ix4 b s u d), fun b s u d => r1 (ix4 b s u d), fun b s u d => r2 (ix4 b s u d), fun b s u => r3 (ix3 b s u),
    fun b s u => r4 (ix3 b s u), fun b u d c => clipE (a5 (ix4 b u d c)) * r6 (ix3 b u c)⟩,
    ⟨fun _ _ _ _ => h0 _, fun _ _ _ _ => h1 _, fun _ _ _ _ => h2 _, fun _ _ _ => h3 _, fun _ _ _ => h4 _, fun _ _ _ _ => ⟨_, h6 _, rfl⟩⟩⟩
end pre
end Cert.Body
-- ==== Proof.RefA.lean ====
/- The reference over the ideal reading: its quantiser, its normalised keys and queries, and its gates, as functions of the
   real data. -/
module

public import proofs.«01_k».proof.Proof.KStep
public import proofs.«01_k».proof.Proof.Gen.ReferenceIdeal.Value
public import Idealize.ShloMosaic.Lib.Pipeline.ValueKit

@[expose] public section

set_option maxRecDepth 16384

noncomputable section

namespace Cert.Ref

open Idealize.ShloMosaic Cert.ReferenceIdeal Cert.ReferenceIdeal.Gen
open Cert.Body

/-- The exponents the reference quantises with, from the quotients. -/
def rE {F : FTy → Type} [FloatOps F] [Named F] {s : Shape} (t : FVec F s .f32) : FVec F s .f32 :=
  select (cmpf .oeq t (broadcast s (Scalar.ofBits .f32 0x00000000#32))) (broadcast s (Scalar.ofBits .f32 0x00000000#32))
    (minimumf (broadcast s (Scalar.ofBits .f32 0x43010000#32)) (maximumf (broadcast s (Scalar.ofBits .f32 0xC2FC0000#32))
      (addf (floor (divf (log t) (broadcast s (Named.named κ "log_2" 0x3F317218#32)))) (broadcast s (Scalar.ofBits .f32 0x3F800000#32)))))

theorem named_log2 : Named.named (F := Ideal) (φ := .f32) κ "log_2" 0x3F317218#32 = ((Real.log 2 : ℝ) : EReal) :=
  IdealRules.named_const.ideal_named_scalar _ _ _ _ rfl

theorem lit_129 : Ideal.ofBits .f32 0x43010000#32 = ((129 : ℝ) : EReal) := by simp [Ideal.ofBits, Ideal.ieee, -EReal.coe_mul]; norm_num
theorem lit_n126 : Ideal.ofBits .f32 0xC2FC0000#32 = ((-126 : ℝ) : EReal) := by simp [Ideal.ofBits, Ideal.ieee, -EReal.coe_mul]; norm_num

theorem rE_apply {s : Shape} (t : FVec Ideal s .f32) (j : s.Idx) (tr : ℝ) (ht : 0 ≤ tr) (h : t j = (tr : EReal)) :
    rE t j = ((qexp tr : ℝ) : EReal) := by
  unfold rE
  pointwise
  rw [h, named_log2, lit_129, lit_n126]
  rcases ht.eq_or_lt with h0 | h0
  · subst h0; simp [qexp]
  · have hl : Real.log 2 ≠ 0 := (Real.log_pos (by norm_num)).ne'
    rw [if_neg (by exact_mod_cast h0.ne')]
    have e : Ideal.liftRound Int.floor (Ideal.div (Ideal.log (tr : EReal)) ((Real.log 2 : ℝ) : EReal)) = (((⌊Real.log tr / Real.log 2⌋ : ℤ) : ℝ) : EReal) := by
      rw [show Ideal.log (tr : EReal) = ((Real.log tr : ℝ) : EReal) from if_neg (not_le.mpr h0)]
      rw [show Ideal.div ((Real.log tr : ℝ) : EReal) ((Real.log 2 : ℝ) : EReal) = ((Real.log tr / Real.log 2 : ℝ) : EReal) by
        unfold Ideal.div; rw [if_neg (by exact_mod_cast hl), ← EReal.coe_inv, ← EReal.coe_mul]; rfl]
      rfl
    rw [e, show (1 : EReal) = ((1 : ℝ) : EReal) from rfl, ← EReal.coe_add, max_coe, min_coe, qexp, if_neg h0.ne']
    push_cast; rfl

theorem exp2_int (e : ℤ) : Ideal.exp2 ((e : ℝ) : EReal) = (((2 : ℝ) ^ e : ℝ) : EReal) := by
  rw [Ideal.exp2_coe]; exact congrArg _ (Real.rpow_intCast 2 e)

/-- The batch, head and chunk of a place in the flattened arrays. -/
def pb (p : Fin 180) : Fin 3 := ⟨p.val / 60, by omega⟩
def pu (p : Fin 180) : Fin 6 := ⟨p.val / 10 % 6, by omega⟩
def pn (p : Fin 180) : Fin 10 := ⟨p.val % 10, by omega⟩

/-! ## The flattened arguments -/

theorem pay3_val (x : Vec Ideal S3x6x640x256 .bf16) (p : Fin 180) (i : Fin 64) (d : Fin 256) :
    k0_pay3 x (ix3 p i d) = x (ix4 (pb p) (pu p) (at64 (pn p) i) d) := by
  unfold k0_pay3; pointwise; blk_ext [pb, pu, pn, at64]
theorem pay4_val (x : Vec Ideal S3x6x640x256 .bf16) (p : Fin 180) (i : Fin 64) (d : Fin 256) :
    k0_pay4 x (ix3 p i d) = x (ix4 (pb p) (pu p) (at64 (pn p) i) d) := by
  unfold k0_pay4; pointwise; blk_ext [pb, pu, pn, at64]
theorem pay5_val (x : Vec Ideal S3x6x640x512 .bf16) (p : Fin 180) (i : Fin 64) (d : Fin 512) :
    k0_pay5 x (ix3 p i d) = x (ix4 (pb p) (pu p) (at64 (pn p) i) d) := by
  unfold k0_pay5; pointwise; blk_ext [pb, pu, pn, at64]
theorem pay6_val (x : Vec Ideal S3x6x640 .f32) (p : Fin 180) (j : Fin 64) :
    k0_pay6 x (ix3 p 0 j) = x (ix3 (pb p) (pu p) (at64 (pn p) j)) := by
  unfold k0_pay6; pointwise; blk_ext [pb, pu, pn, at64]
theorem pay7_val (x : Vec Ideal S3x6x640 .f32) (p : Fin 180) (j : Fin 64) :
    k0_pay7 x (ix3 p j 0) = x (ix3 (pb p) (pu p) (at64 (pn p) j)) := by
  unfold k0_pay7; pointwise; blk_ext [pb, pu, pn, at64]

/-! ## Codes, scales, normalised keys and queries -/

/-- The greatest magnitude of each chunk. -/
def rM {F : FTy → Type} [FloatOps F] [Named F] (x : FVec F S180x64x256 .f32) : FVec F S180 .f32 :=
  multiReduction .maximumf [1, 2] S180 (absf x) 0xFF800000#32 reduces_S180x64x256_S180 (.inl rfl) rfl
/-- The quotients the reference quantises with. -/
def rT {F : FTy → Type} [FloatOps F] [Named F] (x : FVec F S180x64x256 .f32) : FVec F S180x1x1 .f32 :=
  mulf (shapeCast S180x1x1 (rM x) shapeCasts_S180_S180x1x1) (broadcast S180x1x1 (Scalar.ofBits .f32 0x3B124925#32))

theorem pay14_eq {F : FTy → Type} [FloatOps F] [Named F] (x : FVec F S180x64x256 .f32) : k0_pay14 x = rE (rT x) := by sl_kernel_rfl
theorem pay13_eq {F : FTy → Type} [FloatOps F] [Named F] (x : Vec F S3x6x640x256 .bf16) :
    k0_pay13 (k0_pay9 x) (k0_pay10 x) = k0_pay16 (k0_pay3 x) := by sl_kernel_rfl
theorem pay12_eq {F : FTy → Type} [FloatOps F] [Named F] (x : Vec F S3x6x640x256 .bf16) :
    k0_pay12 (k0_pay3 x) (k0_pay9 x) (k0_pay10 x) = k0_pay15 (k0_pay3 x) := by sl_kernel_rfl

theorem rn_val (X : Fin 180 → Fin 64 → Fin 256 → ℝ) (i : Fin 64) (p : Fin 180) :
    (Ideal.div 1 (Ideal.sqrt ((∑ d, X p i d * X p i d + eps : ℝ) : EReal)) : EReal) = (nOf (X p) i : EReal) := by
  have hp := norm_arg_pos (X p) i
  have h0 : √(∑ d, X p i d * X p i d + eps) ≠ 0 := (Real.sqrt_pos.mpr hp).ne'
  rw [show Ideal.sqrt ((∑ d, X p i d * X p i d + eps : ℝ) : EReal) = ((√(∑ d, X p i d * X p i d + eps) : ℝ) : EReal) from by
    show (if _ then _ else _) = _
    rw [if_neg (not_lt.mpr hp.le)]]
  unfold Ideal.div
  rw [if_neg (by exact_mod_cast h0), ← EReal.coe_inv, one_mul]; rfl

theorem rT_apply (y : FVec Ideal S180 .f32) (p : Fin 180) :
    mulf (shapeCast S180x1x1 y shapeCasts_S180_S180x1x1) (broadcast S180x1x1 (Scalar.ofBits .f32 0x3B124925#32)) (ix3 p 0 0)
      = y (ix1 p) * Ideal.ofBits .f32 0x3B124925#32 := by
  pointwise
theorem code_apply (x : FVec Ideal S180x64x256 .f32) (y : FVec Ideal S180x1x1 .f32) (p : Fin 180) (i : Fin 64) (d : Fin 256) :
    (truncf .fp8e4m3 (minimumf (broadcast S180x64x256 (Scalar.ofBits .f32 0x43E00000#32)) (maximumf (broadcast S180x64x256 (Scalar.ofBits .f32 0xC3E00000#32))
      (mulf x (broadcastTo S180x64x256 (exp2 (subf (broadcast S180x1x1 (Scalar.ofBits .f32 0x00000000#32)) y)) broadcasts_S180x1x1_S180x64x256)))) bitsLt_fp8e4m3_f32 : FVec Ideal S180x64x256 .fp8e4m3) (ix3 p i d)
      = min (Ideal.ofBits .f32 0x43E00000#32) (max (Ideal.ofBits .f32 0xC3E00000#32) (x (ix3 p i d) * FloatOps.exp2 (F := Ideal) (φ := .f32) ((0 : EReal) - y (ix3 p 0 0)))) := by
  pointwise

theorem exp2_apply {s : Shape} (y : FVec Ideal s .f32) (j : s.Idx) : exp2 y j = FloatOps.exp2 (F := Ideal) (φ := .f32) (y j) := rfl
theorem exp2_sOf (K : Fin 64 → Fin 256 → ℝ) : (FloatOps.exp2 (F := Ideal) (φ := .f32) ((qexp (tOf K) : ℝ) : EReal) : EReal) = (sOf K : EReal) :=
  exp2_int (qexp (tOf K))

section quant
variable (x : FVec Ideal S180x64x256 .f32) (X : Fin 180 → Fin 64 → Fin 256 → ℝ) (hx : ∀ p i d, x (ix3 p i d) = (X p i d : EReal))
include hx

theorem rM_val (p : Fin 180) : rM x (ix1 p) = ⨆ i, ⨆ d, ((|X p i d| : ℝ) : EReal) := by
  unfold rM
  refine (multiReduction_maximumf_eq_fold _ _ _ _ _ _).trans ?_
  have e0 : (FloatOps.ofBits (F := Ideal) .f32 0xFF800000#32 : EReal) = ⊥ := neg_inf32
  rw [e0]
  show Finset.sup _ (absf x) = _
  have hv : ∀ i d, (absf x (ix3 p i d) : EReal) = ((|X p i d| : ℝ) : EReal) := fun i d => by
    show (FloatOps.absf (F := Ideal) (φ := .f32) (x (ix3 p i d)) : EReal) = _
    rw [hx, abs_coe]
  have hd : ∀ i : S180x64x256.Idx, (reduces_S180x64x256_S180.drop i 0 : ℕ) = i 0 := fun i => reduces_S180x64x256_S180.drop_apply_val_of_eq i 0 0
  apply le_antisymm
  · refine Finset.sup_le fun i hi => ?_
    have h0 : i 0 = p := Fin.ext (by rw [← hd i, (Finset.mem_filter.mp hi).2]; rfl)
    have hi' : i = ix3 p (i 1) (i 2) := by funext a; fin_cases a <;> first | exact h0 | rfl
    rw [hi']
    exact le_iSup₂_of_le (i 1) (i 2) (le_of_eq (hv _ _))
  · refine iSup₂_le fun a d => ?_
    rw [← hv]
    refine Finset.le_sup (f := absf x) (Finset.mem_filter.mpr ⟨Finset.mem_univ _, ?_⟩)
    funext b
    obtain rfl : b = 0 := Subsingleton.elim _ _
    exact Fin.ext (hd _)

theorem rT_val (p : Fin 180) : rT x (ix3 p 0 0) = (tOf (X p) : EReal) := by
  refine (rT_apply (rM x) p).trans ?_
  rw [rM_val x X hx p, lit_cl, (sup2_coe (X p)).1, ← EReal.coe_mul]; rfl

theorem pay14_val (p : Fin 180) : k0_pay14 x (ix3 p 0 0) = ((qexp (tOf (X p)) : ℝ) : EReal) := by
  rw [pay14_eq]; exact rE_apply _ _ _ (tOf_nonneg _) (rT_val x X hx p)

theorem pay16_val (p : Fin 180) : k0_pay16 x (ix3 p 0 0) = (sOf (X p) : EReal) := by
  have h := pay14_val x X hx p
  unfold k0_pay16
  rw [exp2_apply, h]
  exact exp2_sOf (X p)

theorem pay15_val (p : Fin 180) (i : Fin 64) (d : Fin 256) : k0_pay15 x (ix3 p i d) = (cOf (X p) i d : EReal) := by
  have h := pay14_val x X hx p
  have e2 : ∀ e : ℤ, (FloatOps.exp2 (F := Ideal) (φ := .f32) ((0 : EReal) - ((e : ℝ) : EReal)) : EReal) = ((((2 : ℝ) ^ e)⁻¹ : ℝ) : EReal) := fun e => by
    rw [show (0 : EReal) - ((e : ℝ) : EReal) = (((-e : ℤ) : ℝ) : EReal) by
      rw [show (0 : EReal) = ((0 : ℝ) : EReal) from rfl, ← EReal.coe_sub]; push_cast; rw [zero_sub], ← zpow_neg]
    exact exp2_int _
  refine (code_apply x (k0_pay14 x) p i d).trans ?_
  rw [h, e2, hx, lit_448, lit_n448, ← EReal.coe_mul, max_coe, min_coe]
  rfl

theorem pay21_val (cs : FVec Ideal S180x64x256 .fp8e4m3) (ss : FVec Ideal S180x1x1 .f32) (p : Fin 180) (i : Fin 64) (d : Fin 256)
    (hc : cs (ix3 p i d) = (cOf (X p) i d : EReal)) (hs : ss (ix3 p 0 0) = (sOf (X p) : EReal)) :
    k0_pay21 x cs ss (ix3 p i d) = ((cOf (X p) i d * sOf (X p) * nOf (X p) i : ℝ) : EReal) := by
  unfold k0_pay21
  pointwise
  simp only [hx, hc, hs, ← EReal.coe_mul, sum_coe, lit_eps, ← EReal.coe_add]
  rw [rn_val X i p, ← EReal.coe_mul]

theorem pay22_val (cs : FVec Ideal S180x64x256 .fp8e4m3) (ss : FVec Ideal S180x1x1 .f32) (p : Fin 180) (i : Fin 64) (d : Fin 256)
    (hc : cs (ix3 p i d) = (cOf (X p) i d : EReal)) (hs : ss (ix3 p 0 0) = (sOf (X p) : EReal)) :
    k0_pay22 x cs ss (ix3 p i d) = ((cOf (X p) i d * sOf (X p) * nOf (X p) i * (1 / 16) : ℝ) : EReal) := by
  unfold k0_pay22
  pointwise
  simp only [hx, hc, hs, ← EReal.coe_mul, sum_coe, lit_eps, ← EReal.coe_add]
  rw [rn_val X i p, ← EReal.coe_mul, lit_16th, ← EReal.coe_mul]
end quant

/-! ## Gates -/

theorem le_mask : ∀ i j : Fin 64, IntOp.cmpi .sle (BitVec.ofNat 32 j.val) (BitVec.ofNat 32 i.val) = BitVec.ofBool (decide (j ≤ i)) := by decide +kernel
theorem lt_mask : ∀ i j : Fin 64, IntOp.cmpi .slt (BitVec.ofNat 32 j.val) (BitVec.ofNat 32 i.val) = BitVec.ofBool (decide (j < i)) := by decide +kernel
theorem eq_mask : ∀ i j : Fin 64, IntOp.cmpi .eq (BitVec.ofNat 32 i.val) (BitVec.ofNat 32 j.val) = BitVec.ofBool (decide (i = j)) := by decide +kernel

/-- The row numbers. -/
def rI : IVec S180x64x64 32 := iota .tc S180x64x64 32 [1] iota_S180x64x64_d1_w32

section gates
variable (x : FVec Ideal S180x1x64 .f32) (g : Fin 180 → Fin 64 → ℝ) (hg : ∀ p j, x (ix3 p 0 j) = (g p j : EReal))
include hg

theorem pay23_val (p : Fin 180) (i : Fin 64) : k0_pay23 x rI (ix3 p i 0) = (cum (g p) i : EReal) := by
  unfold k0_pay23 rI
  pointwise
  simp only [le_mask, select_of, hg]
  unfold cum
  rw [← sum_coe]
  exact Finset.sum_congr rfl fun j _ => ite_coe _ _ _

theorem pay24_val (p : Fin 180) : k0_pay24 x rI (ix3 p 0 0) = (cum (g p) 63 : EReal) := by
  have h := pay23_val x g hg p 63
  unfold k0_pay24
  generalize k0_pay23 x rI = y at h ⊢
  pointwise
  exact h

theorem pay25_val (p : Fin 180) (i j : Fin 64) :
    k0_pay25 x rI (ix3 p i j) = ((if j ≤ i then Real.exp (cum (g p) i - cum (g p) j) else 0 : ℝ) : EReal) := by
  have h := pay23_val x g hg p
  unfold k0_pay25
  generalize k0_pay23 x rI = y at h ⊢
  unfold rI
  pointwise
  simp only [le_mask, eq_mask, select_of, h]
  rw [Finset.sum_ite_eq' Finset.univ j (fun a => (cum (g p) a : EReal)), if_pos (Finset.mem_univ _), ← EReal.coe_sub]
  split_ifs <;> rfl
end gates
end Cert.Ref
-- ==== Proof.RefB.lean ====
/- The reference's chunk matrices over the ideal reading, and the identity between its solve by doubling and the chunk's
   triangular solve. -/
module

public import proofs.«01_k».proof.Proof.RefA

@[expose] public section

set_option maxRecDepth 16384

noncomputable section

namespace Cert.Body.Chunk

variable (C : Chunk) (S : Fin 256 → Fin 512 → ℝ)

/-- The reference's keys and queries, dequantised and normalised. -/
def N (i : Fin 64) (d : Fin 256) : ℝ := cOf C.K i d * sOf C.K * nOf C.K i
def M (i : Fin 64) (d : Fin 256) : ℝ := cOf C.Q i d * sOf C.Q * nOf C.Q i * (1 / 16)
/-- The reference's decay between two places. -/
def E (i j : Fin 64) : ℝ := if j ≤ i then Real.exp (C.G i - C.G j) else 0
/-- The reference's strictly lower triangular part. -/
def B : Matrix (Fin 64) (Fin 64) ℝ := fun i j => C.b i * (∑ d, C.N i d * C.N j d) * if j < i then C.E i j else 0
end Cert.Body.Chunk

namespace Cert.Ref

open Idealize.ShloMosaic Cert.ReferenceIdeal Cert.ReferenceIdeal.Gen
open Cert.Body

/-- The doubling series: the first half, the power it stops at, and the whole. -/
def ser3 (A : Matrix (Fin 64) (Fin 64) ℝ) : Matrix (Fin 64) (Fin 64) ℝ :=
  (1 - A) + (1 - A) * (A * A) + ((1 - A) + (1 - A) * (A * A)) * (A * A * (A * A))
def pow3 (A : Matrix (Fin 64) (Fin 64) ℝ) : Matrix (Fin 64) (Fin 64) ℝ := A * A * (A * A) * (A * A * (A * A))
def ser6 (t p : Matrix (Fin 64) (Fin 64) ℝ) : Matrix (Fin 64) (Fin 64) ℝ :=
  t + t * p + (t + t * p) * (p * p) + (t + t * p + (t + t * p) * (p * p)) * (p * p * (p * p))

theorem ser_mul (A : Matrix (Fin 64) (Fin 64) ℝ) (hA : Below 1 A) : ser6 (ser3 A) (pow3 A) * (1 + A) = 1 :=
  series A hA (A * A) (A * A * (A * A)) (pow3 A) (pow3 A * pow3 A) (pow3 A * pow3 A * (pow3 A * pow3 A)) (1 - A) _ (ser3 A) _ _ _
    rfl rfl rfl rfl rfl rfl rfl rfl rfl rfl rfl

/-- An array holding one real matrix for each chunk. -/
def Is64 (x : FVec Ideal S180x64x64 .f32) (X : Fin 180 → Matrix (Fin 64) (Fin 64) ℝ) : Prop := ∀ p i j, x (ix3 p i j) = (X p i j : EReal)

theorem mm_val {x y : FVec Ideal S180x64x64 .f32} {X Y : Fin 180 → Matrix (Fin 64) (Fin 64) ℝ} (hx : Is64 x X) (hy : Is64 y Y) :
    Is64 (matmul dot_S180x64x64_S180x64x64_S180x64x64_2_1_1_2_0_0 (some .fp32) x y (constant S180x64x64 .f32 0x00000000#32)) fun p => X p * Y p := by
  intro p i j
  generalize hz : (((X p * Y p) i j : ℝ) : EReal) = z
  pointwise
  simp only [hx p, hy p, ← EReal.coe_mul, sum_coe]
  rw [← hz, Matrix.mul_apply]

theorem add_val {x y : FVec Ideal S180x64x64 .f32} {X Y : Fin 180 → Matrix (Fin 64) (Fin 64) ℝ} (hx : Is64 x X) (hy : Is64 y Y) :
    Is64 (addf x y) fun p => X p + Y p := by
  intro p i j
  show x (ix3 p i j) + y (ix3 p i j) = _
  rw [hx, hy, ← EReal.coe_add]; rfl

/-- The identity matrices. -/
def rOne {F : FTy → Type} [FloatOps F] : FVec F S180x64x64 .f32 :=
  select (cmpi .eq rI (iota .tc S180x64x64 32 [2] iota_S180x64x64_d2_w32)) (broadcast S180x64x64 (Scalar.ofBits .f32 0x3F800000#32)) (broadcast S180x64x64 (Scalar.ofBits .f32 0x00000000#32))

theorem one_val : Is64 rOne fun _ => 1 := by
  intro p i j
  generalize hz : (((1 : Matrix (Fin 64) (Fin 64) ℝ) i j : ℝ) : EReal) = z
  unfold rOne rI
  pointwise
  simp only [eq_mask, select_of]
  rw [← hz, Matrix.one_apply]
  split_ifs <;> rfl

/-- The reference's strictly lower triangular part from the decays. -/
def rB {F : FTy → Type} [FloatOps F] (v17 : FVec F S180x64x1 .f32) (v106 : FVec F S180x64x256 .f32) (e : FVec F S180x64x64 .f32) : FVec F S180x64x64 .f32 :=
  mulf (mulf (broadcastTo S180x64x64 v17 broadcasts_S180x64x1_S180x64x64)
      (matmul dot_S180x64x256_S180x64x256_S180x64x64_2_2_1_1_0_0 none v106 v106 (constant S180x64x64 .f32 0x00000000#32)))
    (select (cmpi .slt (iota .tc S180x64x64 32 [2] iota_S180x64x64_d2_w32) rI) e (broadcast S180x64x64 (Scalar.ofBits .f32 0x00000000#32)))

theorem rB_apply (v17 : FVec Ideal S180x64x1 .f32) (v106 : FVec Ideal S180x64x256 .f32) (e : FVec Ideal S180x64x64 .f32) (p : Fin 180) (i j : Fin 64) :
    rB v17 v106 e (ix3 p i j) = v17 (ix3 p i 0) * (∑ d, v106 (ix3 p i d) * v106 (ix3 p j d)) * (if j < i then e (ix3 p i j) else 0) := by
  unfold rB rI
  pointwise
  simp only [lt_mask, select_of]
  split_ifs
  · rfl
  · rw [mul_zero]

theorem pay26_eq {F : FTy → Type} [FloatOps F] [Named F] (v14 : FVec F S180x1x64 .f32) (v17 : FVec F S180x64x1 .f32) (v106 : FVec F S180x64x256 .f32) :
    k0_pay26 v14 v17 v106 rI = rB v17 v106 (k0_pay25 v14 rI) := by sl_kernel_rfl

section chunk
variable (Cs : Fin 180 → Chunk) (v11 : FVec Ideal S180x64x512 .f32) (v14 : FVec Ideal S180x1x64 .f32) (v17 : FVec Ideal S180x64x1 .f32)
  (v106 v113 : FVec Ideal S180x64x256 .f32) (v122 : FVec Ideal S180x64x1 .f32) (v130 : FVec Ideal S180x1x1 .f32)

/-- The reference's chunk arrays hold these real chunks' values. -/
structure RIn : Prop where
  v : ∀ p i c, v11 (ix3 p i c) = ((Cs p).V i c : EReal)
  g : ∀ p j, v14 (ix3 p 0 j) = ((Cs p).g j : EReal)
  b : ∀ p i, v17 (ix3 p i 0) = ((Cs p).b i : EReal)
  n : ∀ p i d, v106 (ix3 p i d) = ((Cs p).N i d : EReal)
  m : ∀ p i d, v113 (ix3 p i d) = ((Cs p).M i d : EReal)
  G : ∀ p i, v122 (ix3 p i 0) = ((Cs p).G i : EReal)
  e : ∀ p, v130 (ix3 p 0 0) = ((Cs p).G 63 : EReal)

variable {Cs v11 v14 v17 v106 v113 v122 v130} (h : RIn Cs v11 v14 v17 v106 v113 v122 v130)
include h

theorem E_val : Is64 (k0_pay25 v14 rI) fun p => (Cs p).E := fun p i j => pay25_val v14 (fun p => (Cs p).g) h.g p i j

theorem B_val : Is64 (k0_pay26 v14 v17 v106 rI) fun p => (Cs p).B := by
  intro p i j
  rw [pay26_eq, rB_apply, h.b, E_val h]
  simp only [h.n, ← EReal.coe_mul, sum_coe]
  rw [show (0 : EReal) = ((0 : ℝ) : EReal) from rfl, ite_coe, ← EReal.coe_mul]; rfl

theorem p1_val : Is64 (k0_pay27 v14 v17 v106 rI) fun p => (Cs p).B * (Cs p).B := mm_val (B_val h) (B_val h)
theorem p2_val : Is64 (k0_pay28 v14 v17 v106 rI) fun p => (Cs p).B * (Cs p).B * ((Cs p).B * (Cs p).B) := mm_val (p1_val h) (p1_val h)
theorem p3_val : Is64 (k0_pay30 v14 v17 v106 rI) fun p => pow3 (Cs p).B := mm_val (p2_val h) (p2_val h)

theorem t1_val : Is64 (subf rOne (k0_pay26 v14 v17 v106 rI)) fun p => 1 - (Cs p).B := by
  intro p i j
  show rOne (ix3 p i j) - k0_pay26 v14 v17 v106 rI (ix3 p i j) = _
  rw [one_val, B_val h, ← EReal.coe_sub]; rfl
theorem t3_val : Is64 (k0_pay29 v14 v17 v106 rI) fun p => ser3 (Cs p).B := by
  have h2 := add_val (t1_val h) (mm_val (t1_val h) (p1_val h))
  exact add_val h2 (mm_val h2 (p2_val h))

omit h in
theorem T_val {v158 v159 : FVec Ideal S180x64x64 .f32} {t p : Fin 180 → Matrix (Fin 64) (Fin 64) ℝ} (ht : Is64 v158 t) (hp : Is64 v159 p) :
    Is64 (k0_pay31 v158 v159) fun q => ser6 (t q) (p q) := by
  have h4 := add_val ht (mm_val ht hp)
  have q4 := mm_val hp hp
  have h5 := add_val h4 (mm_val h4 q4)
  have q5 := mm_val q4 q4
  exact add_val h5 (mm_val h5 q5)
end chunk
end Cert.Ref

namespace Cert.Body.Chunk
variable (C : Chunk) (S : Fin 256 → Fin 512 → ℝ)

/-- The reference's inverse. -/
def T : Matrix (Fin 64) (Fin 64) ℝ := Cert.Ref.ser6 (Cert.Ref.ser3 C.B) (Cert.Ref.pow3 C.B)
def rw (i : Fin 64) (d : Fin 256) : ℝ := ∑ j, C.T i j * (C.b j * Real.exp (C.G j) * C.N j d)
def ru (i : Fin 64) (c : Fin 512) : ℝ := ∑ j, C.T i j * (C.b j * C.V j c)
def rattn (i j : Fin 64) : ℝ := (∑ d, C.M i d * C.N j d) * C.E i j
def rqg (i : Fin 64) (d : Fin 256) : ℝ := Real.exp (C.G i) * C.M i d
def rkd (i : Fin 64) (d : Fin 256) : ℝ := Real.exp (C.G 63 - C.G i) * C.N i d

theorem B_below : Below 1 C.B := fun i j h => by
  show _ * (if j < i then _ else _) = (0 : ℝ)
  rw [if_neg (by show ¬ j.val < i.val; omega), mul_zero]

theorem B_mul (i j : Fin 64) : C.B i j * C.b j = C.b i * C.A i j := by
  have e : (∑ d, C.N i d * C.N j d) = (∑ d, cOf C.K i d * cOf C.K j d) * (sOf C.K * nOf C.K i * (sOf C.K * nOf C.K j)) := by
    rw [Finset.sum_mul]; exact Finset.sum_congr rfl fun d _ => by unfold N; ring
  unfold B A E
  rw [e]
  by_cases hl : j < i
  · rw [if_pos hl, if_pos hl, if_pos hl.le]; ring
  · rw [if_neg hl, if_neg hl]; ring

/-- The reference's new values are the solved rows, scaled. -/
theorem vnew_eq (i : Fin 64) (c : Fin 512) : C.ru i c - ∑ d, C.rw i d * S d c = C.b i * C.W S i c := by
  have hT : C.T * (1 + C.B) = 1 := Cert.Ref.ser_mul C.B C.B_below
  have hb : (1 + C.B).mulVec (fun j => C.b j * C.W S j c) = fun j => C.b j * C.R S j c := by
    funext j
    rw [Matrix.add_mulVec, Matrix.one_mulVec, Pi.add_apply, ← C.W_solves S c j, mul_add, Finset.mul_sum]
    refine congrArg _ ?_
    show ∑ l, C.B j l * (C.b l * C.W S l c) = _
    exact Finset.sum_congr rfl fun l _ => by rw [← mul_assoc, B_mul, mul_assoc]
  have ht := congrFun (congrArg C.T.mulVec hb) i
  rw [Matrix.mulVec_mulVec, hT, Matrix.one_mulVec] at ht
  rw [ht]
  show _ = ∑ j, C.T i j * (C.b j * C.R S j c)
  unfold ru Chunk.rw
  simp only [Finset.sum_mul]
  rw [Finset.sum_comm, ← Finset.sum_sub_distrib]
  refine Finset.sum_congr rfl fun j _ => ?_
  unfold R N
  rw [mul_sub, mul_sub]
  congr 1
  rw [Finset.mul_sum, Finset.mul_sum, Finset.mul_sum]
  exact Finset.sum_congr rfl fun d _ => by ring

theorem out_eq (i : Fin 64) (c : Fin 512) :
    (∑ d, C.rqg i d * S d c) + ∑ j, C.rattn i j * (C.b j * C.W S j c) = C.out S i c := by
  unfold out
  congr 1
  · rw [Finset.mul_sum]; exact Finset.sum_congr rfl fun d _ => by unfold rqg M; ring
  · refine Finset.sum_congr rfl fun j _ => ?_
    have e : C.rattn i j = C.P j i := by
      have e : (∑ d, C.M i d * C.N j d) = (∑ d, cOf C.K j d * cOf C.Q i d) * (nOf C.K j * (nOf C.Q i * (sOf C.Q * sOf C.K * (1 / 16)))) := by
        rw [Finset.sum_mul]; exact Finset.sum_congr rfl fun d _ => by unfold N M; ring
      unfold rattn P E
      rw [e]; ring
    rw [e]; ring

theorem next_eq (d : Fin 256) (c : Fin 512) :
    Real.exp (C.G 63) * S d c + ∑ j, C.rkd j d * (C.b j * C.W S j c) = C.next S d c := by
  unfold next
  congr 1
  exact Finset.sum_congr rfl fun j _ => by unfold rkd N a; ring
end Cert.Body.Chunk
end
-- ==== Proof.RefC.lean ====
/- The reference's walk over the ten chunks: each printed payload is one of three steps, and the steps over the ideal
   reading are the chunk's outputs and new state. -/
module

public import proofs.«01_k».proof.Proof.RefB

@[expose] public section

set_option maxRecDepth 16384

noncomputable section

namespace Cert.Ref

open Idealize.ShloMosaic Cert.ReferenceIdeal Cert.ReferenceIdeal.Gen
open Cert.Body

theorem sl512 : ∀ n : Fin 10, S18x10x64x512.Slices ![0, n.val, 0, 0] S18x1x64x512 := by decide
theorem sl256 : ∀ n : Fin 10, S18x10x64x256.Slices ![0, n.val, 0, 0] S18x1x64x256 := by decide
theorem sl64 : ∀ n : Fin 10, S18x10x64x64.Slices ![0, n.val, 0, 0] S18x1x64x64 := by decide
theorem sl1 : ∀ n : Fin 10, S18x10x1x1.Slices ![0, n.val, 0, 0] S18x1x1x1 := by decide

section steps
variable {F : FTy → Type} [FloatOps F] [Named F] (n : Fin 10) (w qg kd : FVec F S180x64x256 .f32) (u : FVec F S180x64x512 .f32)
  (a : FVec F S180x64x64 .f32) (dc : FVec F S180x1x1 .f32) (s : FVec F S18x256x512 .f32)

/-- Chunk `n` of an array. -/
def slU : FVec F S18x64x512 .f32 :=
  shapeCast S18x64x512 (extractStridedSlice S18x1x64x512 ![0, n.val, 0, 0] (shapeCast S18x10x64x512 u shapeCasts_S180x64x512_S18x10x64x512) (sl512 n)) shapeCasts_S18x1x64x512_S18x64x512
def slW1 : FVec F S18x1x64x256 .f32 :=
  extractStridedSlice S18x1x64x256 ![0, n.val, 0, 0] (shapeCast S18x10x64x256 w shapeCasts_S180x64x256_S18x10x64x256) (sl256 n)
def slW : FVec F S18x64x256 .f32 := shapeCast S18x64x256 (slW1 n w) shapeCasts_S18x1x64x256_S18x64x256
def slA : FVec F S18x64x64 .f32 :=
  shapeCast S18x64x64 (extractStridedSlice S18x1x64x64 ![0, n.val, 0, 0] (shapeCast S18x10x64x64 a shapeCasts_S180x64x64_S18x10x64x64) (sl64 n)) shapeCasts_S18x1x64x64_S18x64x64
def slD : FVec F S18x1x1 .f32 :=
  shapeCast S18x1x1 (extractStridedSlice S18x1x1x1 ![0, n.val, 0, 0] (shapeCast S18x10x1x1 dc shapeCasts_S180x1x1_S18x10x1x1) (sl1 n)) shapeCasts_S18x1x1x1_S18x1x1
/-- Chunk `n`'s rows times the state. -/
def wS : FVec F S18x64x512 .f32 :=
  matmul dot_S18x64x256_S18x256x512_S18x64x512_2_1_1_2_0_0 (some .fp32) (slW n w) s (constant S18x64x512 .f32 0x00000000#32)
/-- The new values. -/
def vnw : FVec F S18x64x512 .f32 := subf (slU n u) (wS n w s)
/-- The new state from the new values. -/
def nxt (v : FVec F S18x64x512 .f32) : FVec F S18x256x512 .f32 :=
  addf (mulf (broadcastTo S18x256x512 (slD n dc) broadcasts_S18x1x1_S18x256x512) s)
    (matmul dot_S18x64x256_S18x64x512_S18x256x512_1_1_2_2_0_0 (some .fp32) (slW n kd) v (constant S18x256x512 .f32 0x00000000#32))
/-- The outputs from the new values. -/
def outF (v : FVec F S18x64x512 .f32) : FVec F S18x64x512 .f32 :=
  addf (wS n qg s) (matmul dot_S18x64x64_S18x64x512_S18x64x512_2_1_1_2_0_0 (some .fp32) (slA n a) v (constant S18x64x512 .f32 0x00000000#32))
def ooo : FVec F S3x6x64x512 .bf16 :=
  truncf .bf16 (shapeCast S3x6x64x512 (outF n qg a s (vnw n w u s)) shapeCasts_S18x64x512_S3x6x64x512) bitsLt_bf16_f32
/-- One chunk's step. -/
def stp : FVec F S18x256x512 .f32 := nxt n kd dc s (vnw n w u s)

theorem e42 : k0_pay42 a qg s (slU 0 u) (slW1 0 w) = ooo 0 w qg u a s := by sl_kernel_rfl
theorem e43 : k0_pay43 kd dc s (slU 0 u) (slW1 0 w) = stp 0 w kd u dc s := by sl_kernel_rfl
theorem e44 : k0_pay44 w u kd dc s (slU 0 u) (slW1 0 w) = vnw 1 w u (stp 0 w kd u dc s) := by sl_kernel_rfl
theorem e45 : k0_pay45 w u a qg kd dc s (slU 0 u) (slW1 0 w) = ooo 1 w qg u a (stp 0 w kd u dc s) := by sl_kernel_rfl
theorem e48 : k0_pay48 w u a qg kd dc s (vnw 1 w u s) = ooo 2 w qg u a (stp 1 w kd u dc s) := by sl_kernel_rfl
theorem e49 : k0_pay49 w u kd dc s (vnw 1 w u s) = stp 2 w kd u dc (stp 1 w kd u dc s) := by sl_kernel_rfl
theorem e50 : k0_pay50 u = slU 3 u := by sl_kernel_rfl
theorem e51 : k0_pay51 w u kd dc s (vnw 1 w u s) = wS 3 w (stp 2 w kd u dc (stp 1 w kd u dc s)) := by sl_kernel_rfl
theorem e53 : k0_pay53 a qg s (slU 3 u) (wS 3 w s) = ooo 3 w qg u a s := by sl_kernel_rfl
theorem e54 : k0_pay54 kd dc s (slU 3 u) (wS 3 w s) = stp 3 w kd u dc s := by sl_kernel_rfl
theorem e55 : k0_pay55 w u kd dc s (slU 3 u) (wS 3 w s) = vnw 4 w u (stp 3 w kd u dc s) := by sl_kernel_rfl
theorem e56 : k0_pay56 w u a qg kd dc s (slU 3 u) (wS 3 w s) = ooo 4 w qg u a (stp 3 w kd u dc s) := by sl_kernel_rfl
theorem e60 : k0_pay60 w u a qg kd s (vnw 4 w u s) (k0_pay57 dc) = ooo 5 w qg u a (stp 4 w kd u dc s) := by sl_kernel_rfl
theorem e61 : k0_pay61 w u kd dc s (vnw 4 w u s) (k0_pay57 dc) = stp 5 w kd u dc (stp 4 w kd u dc s) := by sl_kernel_rfl
theorem e62 : k0_pay62 w u kd dc s (vnw 4 w u s) (k0_pay57 dc) = vnw 6 w u (stp 5 w kd u dc (stp 4 w kd u dc s)) := by sl_kernel_rfl
theorem e64 : k0_pay64 a s (vnw 6 w u s) (k0_pay63 qg) = ooo 6 w qg u a s := by sl_kernel_rfl
theorem e65 : k0_pay65 kd dc s (vnw 6 w u s) = stp 6 w kd u dc s := by sl_kernel_rfl
theorem e66 : k0_pay66 w u kd dc s (vnw 6 w u s) = vnw 7 w u (stp 6 w kd u dc s) := by sl_kernel_rfl
theorem e67 : k0_pay67 w u a qg kd dc s (vnw 6 w u s) = ooo 7 w qg u a (stp 6 w kd u dc s) := by sl_kernel_rfl
theorem e71 : k0_pay71 w u a qg kd s (vnw 7 w u s) (k0_pay68 dc) = ooo 8 w qg u a (stp 7 w kd u dc s) := by sl_kernel_rfl
theorem e72 : k0_pay72 w u kd dc s (vnw 7 w u s) (k0_pay68 dc) = stp 8 w kd u dc (stp 7 w kd u dc s) := by sl_kernel_rfl
theorem e73 : k0_pay73 w u kd dc s (vnw 7 w u s) (k0_pay68 dc) = vnw 9 w u (stp 8 w kd u dc (stp 7 w kd u dc s)) := by sl_kernel_rfl
theorem e75 : k0_pay75 a (vnw 9 w u (stp 8 w kd u dc (stp 7 w kd u dc s))) (k0_pay74 w u qg kd dc s (vnw 7 w u s) (k0_pay68 dc))
    = ooo 9 w qg u a (stp 8 w kd u dc (stp 7 w kd u dc s)) := by sl_kernel_rfl
theorem e76 : k0_pay76 kd dc s (vnw 9 w u s) = stp 9 w kd u dc s := by sl_kernel_rfl

/-- The state before each chunk. -/
def rS : ℕ → FVec F S18x256x512 .f32
  | 0 => s
  | n + 1 => stp (Fin.ofNat 10 n) w kd u dc (rS n)
end steps

/-! ## The steps over the ideal reading -/

/-- A chunk's place among all chunks, and a head's among all heads. -/
def at10 (r : Fin 18) (n : Fin 10) : Fin 180 := ⟨10 * r.val + n.val, by omega⟩
def at6 (b : Fin 3) (u : Fin 6) : Fin 18 := ⟨6 * b.val + u.val, by omega⟩

theorem slU_apply (n : Fin 10) (u : FVec Ideal S180x64x512 .f32) (r : Fin 18) (i : Fin 64) (c : Fin 512) : slU n u (ix3 r i c) = u (ix3 (at10 r n) i c) := by
  unfold slU; pointwise; blk_ext [at10]
theorem slW_apply (n : Fin 10) (w : FVec Ideal S180x64x256 .f32) (r : Fin 18) (i : Fin 64) (c : Fin 256) : slW n w (ix3 r i c) = w (ix3 (at10 r n) i c) := by
  unfold slW slW1; pointwise; blk_ext [at10]
theorem slA_apply (n : Fin 10) (a : FVec Ideal S180x64x64 .f32) (r : Fin 18) (i : Fin 64) (c : Fin 64) : slA n a (ix3 r i c) = a (ix3 (at10 r n) i c) := by
  unfold slA; pointwise; blk_ext [at10]
theorem slD_apply (n : Fin 10) (dc : FVec Ideal S180x1x1 .f32) (r : Fin 18) : slD n dc (ix3 r 0 0) = dc (ix3 (at10 r n) 0 0) := by
  unfold slD; pointwise; blk_ext [at10]

theorem mmA (x : FVec Ideal S18x64x256 .f32) (s : FVec Ideal S18x256x512 .f32) (r : Fin 18) (i : Fin 64) (c : Fin 512) :
    matmul dot_S18x64x256_S18x256x512_S18x64x512_2_1_1_2_0_0 (some .fp32) x s (constant S18x64x512 .f32 0x00000000#32) (ix3 r i c)
      = ∑ d, x (ix3 r i d) * s (ix3 r d c) := by pointwise
theorem mmB (x : FVec Ideal S18x64x64 .f32) (v : FVec Ideal S18x64x512 .f32) (r : Fin 18) (i : Fin 64) (c : Fin 512) :
    matmul dot_S18x64x64_S18x64x512_S18x64x512_2_1_1_2_0_0 (some .fp32) x v (constant S18x64x512 .f32 0x00000000#32) (ix3 r i c)
      = ∑ d, x (ix3 r i d) * v (ix3 r d c) := by pointwise
theorem mmC (x : FVec Ideal S18x64x256 .f32) (v : FVec Ideal S18x64x512 .f32) (r : Fin 18) (d : Fin 256) (c : Fin 512) :
    matmul dot_S18x64x256_S18x64x512_S18x256x512_1_1_2_2_0_0 (some .fp32) x v (constant S18x256x512 .f32 0x00000000#32) (ix3 r d c)
      = ∑ j, x (ix3 r j d) * v (ix3 r j c) := by pointwise
theorem bD (x : FVec Ideal S18x1x1 .f32) (r : Fin 18) (d : Fin 256) (c : Fin 512) :
    broadcastTo S18x256x512 x broadcasts_S18x1x1_S18x256x512 (ix3 r d c) = x (ix3 r 0 0) := by pointwise
theorem split6 (x : FVec Ideal S18x64x512 .f32) (b : Fin 3) (u : Fin 6) (i : Fin 64) (c : Fin 512) :
    (truncf .bf16 (shapeCast S3x6x64x512 x shapeCasts_S18x64x512_S3x6x64x512) bitsLt_bf16_f32 : FVec Ideal S3x6x64x512 .bf16) (ix4 b u i c) = x (ix3 (at6 b u) i c) := by
  pointwise; blk_ext [at6]

/-- The chunk arrays the walk reads hold these real chunks' values. -/
structure WIn (Cs : Fin 180 → Chunk) (w qg kd : FVec Ideal S180x64x256 .f32) (u : FVec Ideal S180x64x512 .f32)
    (a : FVec Ideal S180x64x64 .f32) (dc : FVec Ideal S180x1x1 .f32) : Prop where
  w : ∀ p i d, w (ix3 p i d) = ((Cs p).rw i d : EReal)
  q : ∀ p i d, qg (ix3 p i d) = ((Cs p).rqg i d : EReal)
  k : ∀ p i d, kd (ix3 p i d) = ((Cs p).rkd i d : EReal)
  u : ∀ p i c, u (ix3 p i c) = ((Cs p).ru i c : EReal)
  a : ∀ p i j, a (ix3 p i j) = ((Cs p).rattn i j : EReal)
  d : ∀ p, dc (ix3 p 0 0) = ((Real.exp ((Cs p).G 63) : ℝ) : EReal)

section vals
variable {Cs : Fin 180 → Chunk} {w qg kd : FVec Ideal S180x64x256 .f32} {u : FVec Ideal S180x64x512 .f32}
  {a : FVec Ideal S180x64x64 .f32} {dc : FVec Ideal S180x1x1 .f32} (h : WIn Cs w qg kd u a dc) (n : Fin 10)
  (s : FVec Ideal S18x256x512 .f32) (r : Fin 18) (S : Fin 256 → Fin 512 → ℝ) (hs : ∀ d c, s (ix3 r d c) = (S d c : EReal))
include h hs

theorem vnw_val (i : Fin 64) (c : Fin 512) : vnw n w u s (ix3 r i c) = (((Cs (at10 r n)).b i * (Cs (at10 r n)).W S i c : ℝ) : EReal) := by
  show slU n u (ix3 r i c) - wS n w s (ix3 r i c) = _
  rw [slU_apply, wS, mmA]
  simp only [slW_apply, h.w, h.u, hs, ← EReal.coe_mul, sum_coe, ← EReal.coe_sub]
  rw [Chunk.vnew_eq]

theorem out_val (i : Fin 64) (c : Fin 512) : outF n qg a s (vnw n w u s) (ix3 r i c) = ((Cs (at10 r n)).out S i c : EReal) := by
  show wS n qg s (ix3 r i c) + matmul _ _ _ _ _ _ = _
  rw [wS, mmA, mmB]
  simp only [slW_apply, slA_apply, h.q, h.a, hs, vnw_val h n s r S hs, ← EReal.coe_mul, sum_coe, ← EReal.coe_add]
  rw [Chunk.out_eq]

theorem stp_val (d : Fin 256) (c : Fin 512) : stp n w kd u dc s (ix3 r d c) = ((Cs (at10 r n)).next S d c : EReal) := by
  show broadcastTo _ _ _ _ * s (ix3 r d c) + matmul _ _ _ _ _ _ = _
  rw [bD, mmC, slD_apply]
  simp only [slW_apply, h.k, h.d, hs, vnw_val h n s r S hs, ← EReal.coe_mul, sum_coe, ← EReal.coe_add]
  rw [Chunk.next_eq]
end vals

section data
variable (D : Data) {w qg kd : FVec Ideal S180x64x256 .f32} {u : FVec Ideal S180x64x512 .f32}
  {a : FVec Ideal S180x64x64 .f32} {dc : FVec Ideal S180x1x1 .f32} (h : WIn (fun p => D.chunk (pb p) (pu p) (pn p)) w qg kd u a dc)
  (s : FVec Ideal S18x256x512 .f32) (hs : ∀ b u d c, s (ix3 (at6 b u) d c) = (D.S0 b u d c : EReal))
include h hs

omit h hs in
theorem at_bun : ∀ b : Fin 3, ∀ u : Fin 6, ∀ n : Fin 10, pb (at10 (at6 b u) n) = b ∧ pu (at10 (at6 b u) n) = u ∧ pn (at10 (at6 b u) n) = n := by decide +kernel

theorem rS_val (b : Fin 3) (v : Fin 6) (n : ℕ) (hn : n ≤ 10) (d : Fin 256) (c : Fin 512) :
    rS w kd u dc s n (ix3 (at6 b v) d c) = (D.st b v n d c : EReal) := by
  induction n generalizing d c with
  | zero => exact hs b v d c
  | succ n ih =>
    have e := stp_val h (Fin.ofNat 10 n) (rS w kd u dc s n) (at6 b v) _ (fun d c => ih (by omega) d c) d c
    have hf : Fin.ofNat 10 n = (⟨n, by omega⟩ : Fin 10) := Fin.ext (Nat.mod_eq_of_lt (by omega))
    obtain ⟨e1, e2, e3⟩ := at_bun b v (Fin.ofNat 10 n)
    simp only [e1, e2, e3] at e
    refine e.trans ?_
    rw [hf]
    exact congrArg (fun f : Fin 256 → Fin 512 → ℝ => ((f d c : ℝ) : EReal)) (D.st_succ b v ⟨n, by omega⟩).symm

theorem ooo_val (b : Fin 3) (v : Fin 6) (n : Fin 10) (i : Fin 64) (c : Fin 512) :
    ooo n w qg u a (rS w kd u dc s n.val) (ix4 b v i c) = ((D.chunk b v n).out (D.st b v n.val) i c : EReal) := by
  have e := out_val h n (rS w kd u dc s n.val) (at6 b v) _ (fun d c => rS_val D h s hs b v n.val (by omega) d c) i c
  obtain ⟨e1, e2, e3⟩ := at_bun b v n
  simp only [e1, e2, e3] at e
  unfold ooo
  rw [split6]; exact e
end data
end Cert.Ref
end
-- ==== Proof.RefD.lean ====
/- The reference's printed values in order: the states before the chunks, the ten stored outputs, and the quantised final
   state. -/
module

public import proofs.«01_k».proof.Proof.RefC
public import proofs.«01_k».proof.Proof.Fold

@[expose] public section

set_option maxRecDepth 16384

noncomputable section

namespace Cert.Ref

open Idealize.ShloMosaic Cert.ReferenceIdeal Cert.ReferenceIdeal.Gen
open Cert.Body

/-- The arrays the reference's body reads. -/
structure Args (F : FTy → Type) [FloatOps F] where
  x0 : Vec F S3x6x640x256 .bf16
  x1 : Vec F S3x6x640x256 .bf16
  x2 : Vec F S3x6x640x512 .bf16
  x3 : Vec F S3x6x640 .f32
  x4 : Vec F S3x6x640 .f32
  x5 : Vec F S3x6x256x512 .fp8e4m3
  x6 : Vec F S3x6x512 .f32

section chain
variable {F : FTy → Type} [FloatOps F] [Named F] (X : Args F)

/-- A printed value of these arrays. -/
abbrev Args.ap {α : Type} (f : Vec F S3x6x640x256 .bf16 → Vec F S3x6x640x256 .bf16 → Vec F S3x6x640x512 .bf16 → Vec F S3x6x640 .f32 → Vec F S3x6x640 .f32 →
    Vec F S3x6x256x512 .fp8e4m3 → Vec F S3x6x512 .f32 → α) : α := f X.x0 X.x1 X.x2 X.x3 X.x4 X.x5 X.x6

def Args.W : FVec F S180x64x256 .f32 := X.ap k0_pay96
def Args.U : FVec F S180x64x512 .f32 := X.ap k0_pay97
def Args.A : FVec F S180x64x64 .f32 := X.ap k0_pay98
def Args.Q : FVec F S180x64x256 .f32 := X.ap k0_pay99
def Args.K : FVec F S180x64x256 .f32 := X.ap k0_pay100
def Args.D : FVec F S180x1x1 .f32 := X.ap k0_pay101
/-- The state before chunk `n`. -/
def Args.S (n : ℕ) : FVec F S18x256x512 .f32 := rS X.W X.K X.U X.D (X.ap k0_pay102) n
/-- The outputs of chunk `n`. -/
def Args.O (n : Fin 10) : FVec F S3x6x64x512 .bf16 := ooo n X.W X.Q X.U X.A (X.S n.val)

theorem c103 : X.ap k0_pay103 = slU 0 X.U := by sl_kernel_rfl
theorem c104 : X.ap k0_pay104 = slW1 0 X.W := by sl_kernel_rfl
theorem c105 : X.ap k0_pay105 = X.S 1 := by
  show k0_pay43 X.K X.D (X.S 0) (X.ap k0_pay103) (X.ap k0_pay104) = _
  rw [c103, c104, e43]; rfl
theorem c106 : X.ap k0_pay106 = vnw 1 X.W X.U (X.S 1) := by
  show k0_pay44 X.W X.U X.K X.D (X.S 0) (X.ap k0_pay103) (X.ap k0_pay104) = _
  rw [c103, c104, e44]; rfl
theorem c107 : X.ap k0_pay107 = X.S 3 := by
  show k0_pay49 X.W X.U X.K X.D (X.ap k0_pay105) (X.ap k0_pay106) = _
  rw [c105, c106, e49]; rfl
theorem c108 : X.ap k0_pay108 = slU 3 X.U := e50 X.U
theorem c109 : X.ap k0_pay109 = wS 3 X.W (X.S 3) := by
  show k0_pay51 X.W X.U X.K X.D (X.ap k0_pay105) (X.ap k0_pay106) = _
  rw [c105, c106, e51]; rfl
theorem c110 : X.ap k0_pay110 = X.S 4 := by
  show k0_pay54 X.K X.D (X.ap k0_pay107) (X.ap k0_pay108) (X.ap k0_pay109) = _
  rw [c107, c108, c109, e54]; rfl
theorem c111 : X.ap k0_pay111 = vnw 4 X.W X.U (X.S 4) := by
  show k0_pay55 X.W X.U X.K X.D (X.ap k0_pay107) (X.ap k0_pay108) (X.ap k0_pay109) = _
  rw [c107, c108, c109, e55]; rfl
theorem c113 : X.ap k0_pay113 = X.S 6 := by
  show k0_pay61 X.W X.U X.K X.D (X.ap k0_pay110) (X.ap k0_pay111) (k0_pay57 X.D) = _
  rw [c110, c111, e61]; rfl
theorem c114 : X.ap k0_pay114 = vnw 6 X.W X.U (X.S 6) := by
  show k0_pay62 X.W X.U X.K X.D (X.ap k0_pay110) (X.ap k0_pay111) (k0_pay57 X.D) = _
  rw [c110, c111, e62]; rfl
theorem c115 : X.ap k0_pay115 = X.S 7 := by
  show k0_pay65 X.K X.D (X.ap k0_pay113) (X.ap k0_pay114) = _
  rw [c113, c114, e65]; rfl
theorem c116 : X.ap k0_pay116 = vnw 7 X.W X.U (X.S 7) := by
  show k0_pay66 X.W X.U X.K X.D (X.ap k0_pay113) (X.ap k0_pay114) = _
  rw [c113, c114, e66]; rfl
theorem c118 : X.ap k0_pay118 = X.S 9 := by
  show k0_pay72 X.W X.U X.K X.D (X.ap k0_pay115) (X.ap k0_pay116) (k0_pay68 X.D) = _
  rw [c115, c116, e72]; rfl
theorem c119 : X.ap k0_pay119 = vnw 9 X.W X.U (X.S 9) := by
  show k0_pay73 X.W X.U X.K X.D (X.ap k0_pay115) (X.ap k0_pay116) (k0_pay68 X.D) = _
  rw [c115, c116, e73]; rfl

theorem o0 : k0_pay42 X.A X.Q (X.S 0) (X.ap k0_pay103) (X.ap k0_pay104) = X.O 0 := by
  rw [c103, c104, e42]; rfl
theorem o1 : k0_pay45 X.W X.U X.A X.Q X.K X.D (X.S 0) (X.ap k0_pay103) (X.ap k0_pay104) = X.O 1 := by
  rw [c103, c104, e45]; rfl
theorem o2 : k0_pay48 X.W X.U X.A X.Q X.K X.D (X.ap k0_pay105) (X.ap k0_pay106) = X.O 2 := by
  rw [c105, c106, e48]; rfl
theorem o3 : k0_pay53 X.A X.Q (X.ap k0_pay107) (X.ap k0_pay108) (X.ap k0_pay109) = X.O 3 := by
  rw [c107, c108, c109, e53]; rfl
theorem o4 : k0_pay56 X.W X.U X.A X.Q X.K X.D (X.ap k0_pay107) (X.ap k0_pay108) (X.ap k0_pay109) = X.O 4 := by
  rw [c107, c108, c109, e56]; rfl
theorem o5 : k0_pay60 X.W X.U X.A X.Q X.K (X.ap k0_pay110) (X.ap k0_pay111) (k0_pay57 X.D) = X.O 5 := by
  rw [c110, c111, e60]; rfl
theorem o6 : k0_pay64 X.A (X.ap k0_pay113) (X.ap k0_pay114) (k0_pay63 X.Q) = X.O 6 := by
  rw [c113, c114, e64]; rfl
theorem o7 : k0_pay67 X.W X.U X.A X.Q X.K X.D (X.ap k0_pay113) (X.ap k0_pay114) = X.O 7 := by
  rw [c113, c114, e67]; rfl
theorem o8 : k0_pay71 X.W X.U X.A X.Q X.K (X.ap k0_pay115) (X.ap k0_pay116) (k0_pay68 X.D) = X.O 8 := by
  rw [c115, c116, e71]; rfl
theorem o9 : k0_pay75 X.A (X.ap k0_pay119) (k0_pay74 X.W X.U X.Q X.K X.D (X.ap k0_pay115) (X.ap k0_pay116) (k0_pay68 X.D)) = X.O 9 := by
  rw [c115, c116, c119]
  exact e75 X.W X.Q X.K X.U X.A X.D (X.S 7)
theorem s10 : k0_pay76 X.K X.D (X.ap k0_pay118) (X.ap k0_pay119) = X.S 10 := by
  rw [c118, c119, e76]; rfl

theorem out7_eq : X.ap out0_7 = View.canon [⟨r0_15, X.O 9⟩, ⟨r0_14, X.O 8⟩, ⟨r0_13, X.O 7⟩, ⟨r0_12, X.O 6⟩, ⟨r0_11, X.O 5⟩, ⟨r0_10, X.O 4⟩,
    ⟨r0_9, X.O 3⟩, ⟨r0_8, X.O 2⟩, ⟨r0_7, X.O 1⟩, ⟨r0_6, X.O 0⟩] := by
  rw [← o0, ← o1, ← o2, ← o3, ← o4, ← o5, ← o6, ← o7, ← o8, ← o9]
  sl_kernel_rfl
end chain

/-! ## The quantised final state -/

/-- The final state's quotients, exponents and codes. -/
def rT1 {F : FTy → Type} [FloatOps F] [Named F] (s : FVec F S18x256x512 .f32) : FVec F S18x1x512 .f32 :=
  mulf (shapeCast S18x1x512 (multiReduction .maximumf [1] S18x512 (absf s) 0xFF800000#32 reduces_S18x256x512_S18x512 (.inl rfl) rfl) shapeCasts_S18x512_S18x1x512)
    (broadcast S18x1x512 (Scalar.ofBits .f32 0x3B124925#32))
def rC1 {F : FTy → Type} [FloatOps F] [Named F] (s : FVec F S18x256x512 .f32) (e : FVec F S18x1x512 .f32) : FVec F S3x6x256x512 .fp8e4m3 :=
  k0_pay1 (mulf s (broadcastTo S18x256x512 (exp2 (subf (broadcast S18x1x512 (Scalar.ofBits .f32 0x00000000#32)) e)) broadcasts_S18x1x512_S18x256x512))
    (Scalar.ofBits .f32 0xC3E00000#32) (Scalar.ofBits .f32 0x43E00000#32)

theorem pay77_eq {F : FTy → Type} [FloatOps F] [Named F] (kd : FVec F S180x64x256 .f32) (dc : FVec F S180x1x1 .f32) (s : FVec F S18x256x512 .f32) (v : FVec F S18x64x512 .f32) :
    k0_pay77 kd dc s v = rE (rT1 (k0_pay76 kd dc s v)) := by sl_kernel_rfl
theorem pay1_eq {F : FTy → Type} [FloatOps F] [Named F] (kd : FVec F S180x64x256 .f32) (dc : FVec F S180x1x1 .f32) (s : FVec F S18x256x512 .f32) (v : FVec F S18x64x512 .f32) :
    k0_pay1 (k0_pay78 kd dc s v) (Scalar.ofBits .f32 0xC3E00000#32) (Scalar.ofBits .f32 0x43E00000#32)
      = rC1 (k0_pay76 kd dc s v) (rE (rT1 (k0_pay76 kd dc s v))) := by sl_kernel_rfl

theorem rT1_apply (s : FVec Ideal S18x256x512 .f32) (r : Fin 18) (c : Fin 512) :
    rT1 s (ix3 r 0 c) = Finset.fold max (Ideal.ofBits .f32 0xFF800000#32) (fun d => FloatOps.absf (F := Ideal) (φ := .f32) (s (ix3 r d c))) Finset.univ
      * Ideal.ofBits .f32 0x3B124925#32 := by
  unfold rT1
  pointwise

theorem rC1_apply (s : FVec Ideal S18x256x512 .f32) (e : FVec Ideal S18x1x512 .f32) (b : Fin 3) (u : Fin 6) (d : Fin 256) (c : Fin 512) :
    rC1 s e (ix4 b u d c) = min (Ideal.ofBits .f32 0x43E00000#32) (max (Ideal.ofBits .f32 0xC3E00000#32)
      (s (ix3 (at6 b u) d c) * FloatOps.exp2 (F := Ideal) (φ := .f32) ((0 : EReal) - e (ix3 (at6 b u) 0 c)))) := by
  have h : ∀ x : FVec Ideal S18x256x512 .f32, k0_pay1 x (Scalar.ofBits .f32 0xC3E00000#32) (Scalar.ofBits .f32 0x43E00000#32) (ix4 b u d c)
      = min (Ideal.ofBits .f32 0x43E00000#32) (max (Ideal.ofBits .f32 0xC3E00000#32) (x (ix3 (at6 b u) d c))) := fun x => by
    unfold k0_pay1
    pointwise
    rw [show x (ix3 ⟨_, _⟩ ⟨_, _⟩ ⟨_, _⟩) = x (ix3 (at6 b u) d c) by blk_ext [at6]]
  have h2 : ∀ e : FVec Ideal S18x1x512 .f32, mulf s (broadcastTo S18x256x512 e broadcasts_S18x1x512_S18x256x512) (ix3 (at6 b u) d c)
      = s (ix3 (at6 b u) d c) * e (ix3 (at6 b u) 0 c) := fun e => by pointwise
  have h3 : ∀ j, exp2 (subf (broadcast S18x1x512 (Scalar.ofBits .f32 0x00000000#32)) e) j = FloatOps.exp2 (F := Ideal) (φ := .f32) ((0 : EReal) - e j) := fun j => by pointwise
  unfold rC1
  rw [h, h2, h3]

theorem pay2_apply (e : FVec Ideal S18x1x512 .f32) (b : Fin 3) (u : Fin 6) (c : Fin 512) :
    k0_pay2 e (ix3 b u c) = FloatOps.exp2 (F := Ideal) (φ := .f32) (e (ix3 (at6 b u) 0 c)) := by
  unfold k0_pay2
  pointwise
  rw [show (⟨b.val * 6 + u.val, by omega⟩ : Fin 18) = at6 b u from Fin.ext (by show b.val * 6 + u.val = 6 * b.val + u.val; omega)]

theorem exp2_neg (e : ℤ) : (FloatOps.exp2 (F := Ideal) (φ := .f32) ((0 : EReal) - ((e : ℝ) : EReal)) : EReal) = ((((2 : ℝ) ^ e)⁻¹ : ℝ) : EReal) := by
  rw [show (0 : EReal) - ((e : ℝ) : EReal) = (((-e : ℤ) : ℝ) : EReal) by
    rw [show (0 : EReal) = ((0 : ℝ) : EReal) from rfl, ← EReal.coe_sub]; push_cast; rw [zero_sub], ← zpow_neg]
  exact exp2_int _

section final
variable (s : FVec Ideal S18x256x512 .f32) (b : Fin 3) (u : Fin 6) (S : Fin 256 → Fin 512 → ℝ) (hs : ∀ d c, s (ix3 (at6 b u) d c) = (S d c : EReal))
include hs

theorem rT1_val (c : Fin 512) : rT1 s (ix3 (at6 b u) 0 c) = (tCol S c : EReal) := by
  rw [rT1_apply]
  simp only [neg_inf32, hs, abs_coe, fold_max, lit_cl]
  rw [(sup1_coe S c).1, ← EReal.coe_mul]; rfl

theorem rE1_val (c : Fin 512) : rE (rT1 s) (ix3 (at6 b u) 0 c) = ((qexp (tCol S c) : ℝ) : EReal) :=
  rE_apply _ _ _ (tCol_nonneg S c) (rT1_val s b u S hs c)

theorem rC1_val (d : Fin 256) (c : Fin 512) : rC1 s (rE (rT1 s)) (ix4 b u d c) = (clip (S d c * (qsc (tCol S c))⁻¹) : EReal) := by
  rw [rC1_apply, rE1_val s b u S hs, exp2_neg, hs, lit_448, lit_n448, ← EReal.coe_mul, max_coe, min_coe]
  rfl

theorem rS1_val (c : Fin 512) : k0_pay2 (rE (rT1 s)) (ix3 b u c) = (qsc (tCol S c) : EReal) := by
  rw [pay2_apply, rE1_val s b u S hs]
  exact exp2_int _
end final
end Cert.Ref
end
-- ==== Proof.RefE.lean ====
/- The reference's chunk inputs from its arguments: solved rows, decayed queries and keys, scores, and the start state. -/
module

public import proofs.«01_k».proof.Proof.RefC
public import proofs.«01_k».proof.Proof.Fold

@[expose] public section

set_option maxRecDepth 16384

noncomputable section

namespace Cert.Ref

open Idealize.ShloMosaic Cert.ReferenceIdeal Cert.ReferenceIdeal.Gen
open Cert.Body

section forms
variable (T A : FVec Ideal S180x64x64 .f32) (b g : FVec Ideal S180x64x1 .f32) (k q : FVec Ideal S180x64x256 .f32)
  (v : FVec Ideal S180x64x512 .f32) (e : FVec Ideal S180x1x1 .f32) (p : Fin 180) (i : Fin 64)

theorem f32 (d : Fin 256) :
    matmul dot_S180x64x64_S180x64x256_S180x64x256_2_1_1_2_0_0 (some .fp32) T
      (mulf (broadcastTo S180x64x256 (mulf b (exp g)) broadcasts_S180x64x1_S180x64x256) k) (constant S180x64x256 .f32 0x00000000#32) (ix3 p i d)
      = ∑ j, T (ix3 p i j) * (b (ix3 p j 0) * Ideal.exp (g (ix3 p j 0)) * k (ix3 p j d)) := by
  pointwise

theorem f33 (c : Fin 512) :
    matmul dot_S180x64x64_S180x64x512_S180x64x512_2_1_1_2_0_0 (some .fp32) T
      (mulf (broadcastTo S180x64x512 b broadcasts_S180x64x1_S180x64x512) v) (constant S180x64x512 .f32 0x00000000#32) (ix3 p i c)
      = ∑ j, T (ix3 p i j) * (b (ix3 p j 0) * v (ix3 p j c)) := by
  pointwise

theorem f34 (j : Fin 64) :
    mulf (matmul dot_S180x64x256_S180x64x256_S180x64x64_2_2_1_1_0_0 none q k (constant S180x64x64 .f32 0x00000000#32)) A (ix3 p i j)
      = (∑ d, q (ix3 p i d) * k (ix3 p j d)) * A (ix3 p i j) := by
  pointwise

theorem f35 (d : Fin 256) : mulf (broadcastTo S180x64x256 (exp g) broadcasts_S180x64x1_S180x64x256) q (ix3 p i d)
    = Ideal.exp (g (ix3 p i 0)) * q (ix3 p i d) := by pointwise

theorem f36 (d : Fin 256) :
    mulf (broadcastTo S180x64x256 (exp (subf (broadcastTo S180x64x1 e broadcasts_S180x1x1_S180x64x1) g)) broadcasts_S180x64x1_S180x64x256) k (ix3 p i d)
      = Ideal.exp (e (ix3 p 0 0) - g (ix3 p i 0)) * k (ix3 p i d) := by pointwise

theorem f38 (x : FVec Ideal S3x6x256x512 .f32) (r : FVec Ideal S3x6x512 .f32) (b : Fin 3) (u : Fin 6) (d : Fin 256) (c : Fin 512) :
    shapeCast S18x256x512 (mulf (minimumf (broadcast S3x6x256x512 (Scalar.ofBits .f32 0x43E00000#32)) (maximumf (broadcast S3x6x256x512 (Scalar.ofBits .f32 0xC3E00000#32)) x))
      (broadcastTo S3x6x256x512 (shapeCast S3x6x1x512 r shapeCasts_S3x6x512_S3x6x1x512) broadcasts_S3x6x1x512_S3x6x256x512)) shapeCasts_S3x6x256x512_S18x256x512
      (ix3 (at6 b u) d c)
      = min (Ideal.ofBits .f32 0x43E00000#32) (max (Ideal.ofBits .f32 0xC3E00000#32) (x (ix4 b u d c))) * r (ix3 b u c) := by
  have hb := b.isLt; have hu := u.isLt; have hd := d.isLt; have hc := c.isLt
  pointwise
  have e1 : (⟨(at6 b u).val / 6, by show (6 * b.val + u.val) / 6 < 3; omega⟩ : Fin 3) = b := Fin.ext (by show (6 * b.val + u.val) / 6 = b.val; omega)
  have e2 : (⟨(at6 b u).val % 6, by show (6 * b.val + u.val) % 6 < 6; omega⟩ : Fin 6) = u := Fin.ext (by show (6 * b.val + u.val) % 6 = u.val; omega)
  rw [e1, e2]
end forms

section chunk
variable {Cs : Fin 180 → Chunk} {v11 : FVec Ideal S180x64x512 .f32} {v14 : FVec Ideal S180x1x64 .f32} {v17 : FVec Ideal S180x64x1 .f32}
  {v106 v113 : FVec Ideal S180x64x256 .f32} {v122 : FVec Ideal S180x64x1 .f32} {v130 : FVec Ideal S180x1x1 .f32}
  (h : RIn Cs v11 v14 v17 v106 v113 v122 v130)
include h

/-- The chunk inputs the reference computes are the chunks'. -/
theorem wIn : WIn Cs (k0_pay32 v17 v106 v122 (k0_pay29 v14 v17 v106 rI) (k0_pay30 v14 v17 v106 rI)) (k0_pay35 v113 v122) (k0_pay36 v106 v122 v130)
    (k0_pay33 v11 v17 (k0_pay29 v14 v17 v106 rI) (k0_pay30 v14 v17 v106 rI)) (k0_pay34 v106 v113 (k0_pay25 v14 rI)) (k0_pay37 v130) where
  w p i d := by
    refine (f32 _ v17 v122 v106 p i d).trans ?_
    rw [show (((Cs p).rw i d : ℝ) : EReal) = ((∑ j, (Cs p).T i j * ((Cs p).b j * Real.exp ((Cs p).G j) * (Cs p).N j d) : ℝ) : EReal) from rfl, ← sum_coe]
    refine Finset.sum_congr rfl fun j _ => ?_
    rw [T_val (t3_val h) (p3_val h) p i j, h.b, h.G, h.n, exp_coe, ← EReal.coe_mul, ← EReal.coe_mul, ← EReal.coe_mul]; rfl
  q p i d := by
    refine (f35 v122 v113 p i d).trans ?_
    rw [h.G, h.m, exp_coe, ← EReal.coe_mul]; rfl
  k p i d := by
    refine (f36 v122 v106 v130 p i d).trans ?_
    rw [h.G, h.e, h.n, ← EReal.coe_sub, exp_coe, ← EReal.coe_mul]; rfl
  u p i c := by
    refine (f33 _ v17 v11 p i c).trans ?_
    rw [show (((Cs p).ru i c : ℝ) : EReal) = ((∑ j, (Cs p).T i j * ((Cs p).b j * (Cs p).V j c) : ℝ) : EReal) from rfl, ← sum_coe]
    refine Finset.sum_congr rfl fun j _ => ?_
    rw [T_val (t3_val h) (p3_val h) p i j, h.b, h.v, ← EReal.coe_mul, ← EReal.coe_mul]; rfl
  a p i j := by
    refine (f34 _ v106 v113 p i j).trans ?_
    rw [E_val h p i j]
    simp only [h.n, h.m, ← EReal.coe_mul, sum_coe]
    rfl
  d p := by
    show Ideal.exp (v130 (ix3 p 0 0)) = _
    rw [h.e, exp_coe]
end chunk

/-- The reference's start state: clipped codes times scales. -/
theorem start_val (x5 : Vec Ideal S3x6x256x512 .fp8e4m3) (x6 : Vec Ideal S3x6x512 .f32) (b : Fin 3) (u : Fin 6) (d : Fin 256) (c : Fin 512) (r : ℝ)
    (hr : x6 (ix3 b u c) = (r : EReal)) : k0_pay38 x5 x6 (ix3 (at6 b u) d c) = ((clipE (x5 (ix4 b u d c)) * r : ℝ) : EReal) := by
  refine (f38 (extf .f32 x5) x6 b u d c).trans ?_
  rw [hr, lit_448, lit_n448]
  show min ((448 : ℝ) : EReal) (max ((-448 : ℝ) : EReal) (x5 (ix4 b u d c))) * (r : EReal) = _
  rw [clipE_coe, EReal.coe_mul]

/-! ## Stored codes and scales -/

theorem codes_at (x : FVec Ideal S180x64x256 .fp8e4m3) (b : Fin 3) (u : Fin 6) (s : Fin 640) (d : Fin 256) (p : Fin 180)
    (hp : p.val = 60 * b.val + 10 * u.val + (ch s).val) :
    shapeCast S3x6x640x256 x shapeCasts_S180x64x256_S3x6x640x256 (ix4 b u s d) = x (ix3 p (po s) d) := by
  have hb := b.isLt; have hu := u.isLt; have hd := d.isLt; have hs := s.isLt
  have hp' : p.val = 60 * b.val + 10 * u.val + s.val / 64 := hp
  pointwise
  blk_ext [po]

theorem scales_at (x : FVec Ideal S180x1x1 .f32) (b : Fin 3) (u : Fin 6) (n : Fin 10) (p : Fin 180)
    (hp : p.val = 60 * b.val + 10 * u.val + n.val) :
    shapeCast S3x6x10 x shapeCasts_S180x1x1_S3x6x10 (ix3 b u n) = x (ix3 p 0 0) := by
  have hb := b.isLt; have hu := u.isLt; have hn := n.isLt
  pointwise
  blk_ext []

/-- The place of chunk `n` of head `u` of batch `b` among the chunks. -/
def at180 (b : Fin 3) (u : Fin 6) (n : Fin 10) : Fin 180 := ⟨60 * b.val + 10 * u.val + n.val, by omega⟩
theorem pb_at (b : Fin 3) (u : Fin 6) (n : Fin 10) : pb (at180 b u n) = b := Fin.ext (by show (60 * b.val + 10 * u.val + n.val) / 60 = b.val; omega)
theorem pu_at (b : Fin 3) (u : Fin 6) (n : Fin 10) : pu (at180 b u n) = u := Fin.ext (by show (60 * b.val + 10 * u.val + n.val) / 10 % 6 = u.val; omega)
theorem pn_at (b : Fin 3) (u : Fin 6) (n : Fin 10) : pn (at180 b u n) = n := Fin.ext (by show (60 * b.val + 10 * u.val + n.val) % 10 = n.val; omega)
end Cert.Ref
-- ==== Proof.RefF.lean ====
/- What the reference's body leaves in its seven results, from real arguments. -/
module

public import proofs.«01_k».proof.Proof.RefD
public import proofs.«01_k».proof.Proof.RefE

@[expose] public section

set_option maxRecDepth 16384

noncomputable section

namespace Cert.Ref

open Idealize.ShloMosaic Cert.ReferenceIdeal Cert.ReferenceIdeal.Gen
open Cert.Body

/-- The arrays of the body hold the problem's data. -/
structure AIs (D : Data) (X : Args Ideal) : Prop where
  q : ∀ b u s d, X.x0 (ix4 b u s d) = (D.q b s u d : EReal)
  k : ∀ b u s d, X.x1 (ix4 b u s d) = (D.k b s u d : EReal)
  v : ∀ b u s d, X.x2 (ix4 b u s d) = (D.v b s u d : EReal)
  g : ∀ b u s, X.x3 (ix3 b u s) = (D.g b s u : EReal)
  b : ∀ b u s, X.x4 (ix3 b u s) = (D.b b s u : EReal)
  S0 : ∀ b u d c, ∃ r : ℝ, X.x6 (ix3 b u c) = (r : EReal) ∧ D.S0 b u d c = clipE (X.x5 (ix4 b u d c)) * r

section loads
variable {F : FTy → Type} [FloatOps F] [Named F]
theorem off3 : (![0, 0, 0] : Fin 3 → ℕ) = fun _ => 0 := by funext a; fin_cases a <;> rfl
theorem off4 : (![0, 0, 0, 0] : Fin 4 → ℕ) = fun _ => 0 := by funext a; fin_cases a <;> rfl
theorem ld0 {e : EltTy} (x : S3x6x640x256.Idx → Elt F e) : View.ld x r0_0 = x := View.ld_unit_zero off4 _ x
theorem ld1 {e : EltTy} (x : S3x6x640x512.Idx → Elt F e) : View.ld x r0_1 = x := View.ld_unit_zero off4 _ x
theorem ld2 {e : EltTy} (x : S3x6x640.Idx → Elt F e) : View.ld x r0_2 = x := View.ld_unit_zero off3 _ x
theorem ld4 {e : EltTy} (x : S3x6x256x512.Idx → Elt F e) : View.ld x r0_4 = x := View.ld_unit_zero off4 _ x
theorem ld5 {e : EltTy} (x : S3x6x512.Idx → Elt F e) : View.ld x r0_5 = x := View.ld_unit_zero off3 _ x
end loads

section vals
variable {D : Data} {X : Args Ideal} (h : AIs D X)

/-- The chunks in the body's order. -/
def csOf (D : Data) (p : Fin 180) : Chunk := D.chunk (pb p) (pu p) (pn p)

def xK (X : Args Ideal) : FVec Ideal S180x64x256 .f32 := k0_pay3 X.x1
def xQ (X : Args Ideal) : FVec Ideal S180x64x256 .f32 := k0_pay4 X.x0

include h
theorem kx (p : Fin 180) (i : Fin 64) (d : Fin 256) : xK X (ix3 p i d) = ((csOf D p).K i d : EReal) := by
  unfold xK; rw [pay3_val, h.k]; rfl
theorem qx (p : Fin 180) (i : Fin 64) (d : Fin 256) : xQ X (ix3 p i d) = ((csOf D p).Q i d : EReal) := by
  unfold xQ; rw [pay4_val, h.q]; rfl

theorem rIn : RIn (csOf D) (k0_pay5 X.x2) (k0_pay6 X.x3) (k0_pay7 X.x4) (k0_pay21 (xK X) (k0_pay15 (xK X)) (k0_pay16 (xK X)))
    (k0_pay22 (xQ X) (k0_pay15 (xQ X)) (k0_pay16 (xQ X))) (k0_pay23 (k0_pay6 X.x3) rI) (k0_pay24 (k0_pay6 X.x3) rI) := by
  have hg : ∀ p j, k0_pay6 X.x3 (ix3 p 0 j) = ((csOf D p).g j : EReal) := fun p j => by rw [pay6_val, h.g]; rfl
  exact {
    v := fun p i c => by rw [pay5_val, h.v]; rfl
    g := hg
    b := fun p i => by rw [pay7_val, h.b]; rfl
    n := fun p i d => pay21_val (xK X) (fun p => (csOf D p).K) (kx h) _ _ p i d
      (pay15_val (xK X) (fun p => (csOf D p).K) (kx h) p i d) (pay16_val (xK X) (fun p => (csOf D p).K) (kx h) p)
    m := fun p i d => pay22_val (xQ X) (fun p => (csOf D p).Q) (qx h) _ _ p i d
      (pay15_val (xQ X) (fun p => (csOf D p).Q) (qx h) p i d) (pay16_val (xQ X) (fun p => (csOf D p).Q) (qx h) p)
    G := fun p i => pay23_val _ (fun p => (csOf D p).g) hg p i
    e := fun p => pay24_val _ (fun p => (csOf D p).g) hg p }

omit h
theorem p79 : X.ap k0_pay79 = xK X := congrArg k0_pay3 (ld0 X.x1)
theorem p80 : X.ap k0_pay80 = xQ X := congrArg k0_pay4 (ld0 X.x0)
theorem p81 : X.ap k0_pay81 = k0_pay5 X.x2 := congrArg k0_pay5 (ld1 X.x2)
theorem p82 : X.ap k0_pay82 = k0_pay6 X.x3 := congrArg k0_pay6 (ld2 X.x3)
theorem p83 : X.ap k0_pay83 = k0_pay7 X.x4 := congrArg k0_pay7 (ld2 X.x4)
theorem p86 : X.ap k0_pay86 = k0_pay16 (xK X) := by
  have e := pay13_eq (F := Ideal) X.x1
  show k0_pay13 (k0_pay9 (View.ld X.x1 r0_0)) (k0_pay10 (View.ld X.x1 r0_0)) = _
  rw [ld0]; exact e
theorem p12 : k0_pay12 (X.ap k0_pay79) (X.ap k0_pay84) (X.ap k0_pay85) = k0_pay15 (xK X) := by
  have e := pay12_eq (F := Ideal) X.x1
  show k0_pay12 (k0_pay3 (View.ld X.x1 r0_0)) (k0_pay9 (View.ld X.x1 r0_0)) (k0_pay10 (View.ld X.x1 r0_0)) = _
  rw [ld0]; exact e
theorem p90 : X.ap k0_pay90 = k0_pay21 (xK X) (k0_pay15 (xK X)) (k0_pay16 (xK X)) := by
  show k0_pay21 (X.ap k0_pay79) (k0_pay12 (X.ap k0_pay79) (X.ap k0_pay84) (X.ap k0_pay85)) (X.ap k0_pay86) = _
  rw [p12, p86, p79]
theorem p87 : X.ap k0_pay87 = k0_pay15 (xQ X) := congrArg k0_pay15 p80
theorem p88 : X.ap k0_pay88 = k0_pay16 (xQ X) := congrArg k0_pay16 p80
theorem p91 : X.ap k0_pay91 = k0_pay22 (xQ X) (k0_pay15 (xQ X)) (k0_pay16 (xQ X)) := by
  show k0_pay22 (X.ap k0_pay80) (X.ap k0_pay87) (X.ap k0_pay88) = _
  rw [p87, p88, p80]
theorem p92 : X.ap k0_pay92 = k0_pay23 (k0_pay6 X.x3) rI := by
  show k0_pay23 (X.ap k0_pay82) rI = _
  rw [p82]
theorem p93 : X.ap k0_pay93 = k0_pay24 (k0_pay6 X.x3) rI := by
  show k0_pay24 (X.ap k0_pay82) rI = _
  rw [p82]
theorem p94 : X.ap k0_pay94 = k0_pay29 (k0_pay6 X.x3) (k0_pay7 X.x4) (k0_pay21 (xK X) (k0_pay15 (xK X)) (k0_pay16 (xK X))) rI := by
  show k0_pay29 (X.ap k0_pay82) (X.ap k0_pay83) (X.ap k0_pay90) rI = _
  rw [p82, p83, p90]
theorem p95 : X.ap k0_pay95 = k0_pay30 (k0_pay6 X.x3) (k0_pay7 X.x4) (k0_pay21 (xK X) (k0_pay15 (xK X)) (k0_pay16 (xK X))) rI := by
  show k0_pay30 (X.ap k0_pay82) (X.ap k0_pay83) (X.ap k0_pay90) rI = _
  rw [p82, p83, p90]

include h
/-- The chunk inputs of the body. -/
theorem xwIn : WIn (fun p => D.chunk (pb p) (pu p) (pn p)) X.W X.Q X.K X.U X.A X.D := by
  have w := wIn (rIn h)
  rw [← p91, ← p94, ← p95, ← p90, ← p92, ← p93, ← p83, ← p81, ← p82] at w
  exact w

theorem xS0 (b : Fin 3) (u : Fin 6) (d : Fin 256) (c : Fin 512) : X.ap k0_pay102 (ix3 (at6 b u) d c) = (D.S0 b u d c : EReal) := by
  obtain ⟨r, hr, hs⟩ := h.S0 b u d c
  show k0_pay38 (View.ld X.x5 r0_4) (View.ld X.x6 r0_5) _ = _
  rw [ld4, ld5, start_val X.x5 X.x6 b u d c r hr, hs]

theorem xS (b : Fin 3) (u : Fin 6) (n : ℕ) (hn : n ≤ 10) (d : Fin 256) (c : Fin 512) : X.S n (ix3 (at6 b u) d c) = (D.st b u n d c : EReal) :=
  rS_val D (xwIn h) _ (xS0 h) b u n hn d c

theorem xO (b : Fin 3) (u : Fin 6) (n : Fin 10) (i : Fin 64) (c : Fin 512) :
    X.O n (ix4 b u i c) = ((D.chunk b u n).out (D.st b u n.val) i c : EReal) :=
  ooo_val D (xwIn h) _ (xS0 h) b u n i c

/-! ## The seven results -/

/-- The outputs, as one array. -/
def outG (D : Data) : S3x6x640x512.Idx → EReal := fun i =>
  ((D.chunk (i 0) (i 1) (ch (i 2))).out (D.st (i 0) (i 1) (ch (i 2)).val) (po (i 2)) (i 3) : ℝ)

/-- Each stored piece is the outputs' at its rows. -/
theorem piece (n : Fin 10) (inb) (x : S3x6x64x512.Idx) :
    X.O n x = outG D ((Rect.unit (s := S3x6x640x512) ![0, 0, 64 * n.val, 0] S3x6x64x512.size inb).emb x) := by
  have e : x = ix4 (x 0) (x 1) (x 2) (x 3) := by funext a; fin_cases a <;> rfl
  have v2 : ((Rect.unit (s := S3x6x640x512) ![0, 0, 64 * n.val, 0] S3x6x64x512.size inb).emb x 2).val = 64 * n.val + (x 2).val :=
    congrArg (64 * n.val + ·) (Nat.one_mul (x 2).val)
  have l2 : (x 2).val < 64 := (x 2).isLt
  have z : ∀ k, 0 + 1 * k = k := fun k => by omega
  have hc : ch ((Rect.unit (s := S3x6x640x512) ![0, 0, 64 * n.val, 0] S3x6x64x512.size inb).emb x 2) = n :=
    Fin.ext ((congrArg (· / 64) v2).trans (show (64 * n.val + (x 2).val) / 64 = n.val by omega))
  have hp : po ((Rect.unit (s := S3x6x640x512) ![0, 0, 64 * n.val, 0] S3x6x64x512.size inb).emb x 2) = x 2 :=
    Fin.ext ((congrArg (· % 64) v2).trans (show (64 * n.val + (x 2).val) % 64 = (x 2).val by omega))
  have h0 : (Rect.unit (s := S3x6x640x512) ![0, 0, 64 * n.val, 0] S3x6x64x512.size inb).emb x 0 = x 0 := Fin.ext (z _)
  have h1 : (Rect.unit (s := S3x6x640x512) ![0, 0, 64 * n.val, 0] S3x6x64x512.size inb).emb x 1 = x 1 := Fin.ext (z _)
  have h3 : (Rect.unit (s := S3x6x640x512) ![0, 0, 64 * n.val, 0] S3x6x64x512.size inb).emb x 3 = x 3 := Fin.ext (z _)
  unfold outG
  rw [hc, hp, h0, h1, h3]
  rw [e]
  exact xO h (x 0) (x 1) n (x 2) (x 3)

theorem R7_val : X.ap out0_7 = outG D := by
  funext y
  rw [out7_eq]
  refine View.canon_apply_of_pieces (Val := Elt Ideal) (e := .bf16) (outG D) _ (fun p hp x => ?_) y (cover0_7 _ _ _ _ _ _ _ _ _ _ y)
  simp only [List.mem_cons, List.not_mem_nil, or_false] at hp
  rcases hp with rfl | rfl | rfl | rfl | rfl | rfl | rfl | rfl | rfl | rfl
  · exact piece h 9 inb_S3x6x640x512_S3x6x64x512_0_0_576_0 x
  · exact piece h 8 inb_S3x6x640x512_S3x6x64x512_0_0_512_0 x
  · exact piece h 7 inb_S3x6x640x512_S3x6x64x512_0_0_448_0 x
  · exact piece h 6 inb_S3x6x640x512_S3x6x64x512_0_0_384_0 x
  · exact piece h 5 inb_S3x6x640x512_S3x6x64x512_0_0_320_0 x
  · exact piece h 4 inb_S3x6x640x512_S3x6x64x512_0_0_256_0 x
  · exact piece h 3 inb_S3x6x640x512_S3x6x64x512_0_0_192_0 x
  · exact piece h 2 inb_S3x6x640x512_S3x6x64x512_0_0_128_0 x
  · exact piece h 1 inb_S3x6x640x512_S3x6x64x512_0_0_64_0 x
  · exact piece h 0 inb_S3x6x640x512_S3x6x64x512_0_0_0_0 x

theorem R8_val (b : Fin 3) (u : Fin 6) (d : Fin 256) (c : Fin 512) : X.ap out0_8 (ix4 b u d c) = (D.fc b u d c : EReal) := by
  have e : X.ap out0_8 = rC1 (X.S 10) (rE (rT1 (X.S 10))) := by
    refine (View.canon_unit_zero off4 _ _).trans ?_
    refine (pay1_eq _ _ _ _).trans ?_
    exact congrArg (fun s => rC1 s (rE (rT1 s))) (s10 X)
  rw [e, rC1_val _ b u (D.st b u 10) (fun d c => xS h b u 10 le_rfl d c)]
  rfl

theorem R9_val (b : Fin 3) (u : Fin 6) (c : Fin 512) : X.ap out0_9 (ix3 b u c) = (D.fs b u c : EReal) := by
  have e : X.ap out0_9 = k0_pay2 (rE (rT1 (X.S 10))) := by
    refine (View.canon_unit_zero off3 _ _).trans ?_
    refine congrArg k0_pay2 ((pay77_eq _ _ _ _).trans ?_)
    exact congrArg (fun s => rE (rT1 s)) (s10 X)
  rw [e, rS1_val _ b u (D.st b u 10) (fun d c => xS h b u 10 le_rfl d c)]
  rfl

theorem R10_val (b : Fin 3) (u : Fin 6) (s : Fin 640) (d : Fin 256) :
    X.ap out0_10 (ix4 b u s d) = (cOf (D.chunk b u (ch s)).K (po s) d : EReal) := by
  have e : X.ap out0_10 = shapeCast S3x6x640x256 (k0_pay15 (xK X)) shapeCasts_S180x64x256_S3x6x640x256 := by
    refine (View.canon_unit_zero off4 _ _).trans ?_
    exact congrArg (fun x => shapeCast S3x6x640x256 x shapeCasts_S180x64x256_S3x6x640x256) (p12 (X := X))
  rw [e, codes_at _ b u s d (at180 b u (ch s)) rfl, pay15_val (xK X) (fun p => (csOf D p).K) (kx h)]
  unfold csOf; rw [pb_at, pu_at, pn_at]

theorem R11_val (b : Fin 3) (u : Fin 6) (n : Fin 10) : X.ap out0_11 (ix3 b u n) = (sOf (D.chunk b u n).K : EReal) := by
  have e : X.ap out0_11 = shapeCast S3x6x10 (k0_pay16 (xK X)) shapeCasts_S180x1x1_S3x6x10 := by
    refine (View.canon_unit_zero off3 _ _).trans ?_
    exact congrArg (fun x => shapeCast S3x6x10 x shapeCasts_S180x1x1_S3x6x10) (p86 (X := X))
  rw [e, scales_at _ b u n (at180 b u n) rfl, pay16_val (xK X) (fun p => (csOf D p).K) (kx h)]
  unfold csOf; rw [pb_at, pu_at, pn_at]

theorem R12_val (b : Fin 3) (u : Fin 6) (s : Fin 640) (d : Fin 256) :
    X.ap out0_12 (ix4 b u s d) = (cOf (D.chunk b u (ch s)).Q (po s) d : EReal) := by
  have e : X.ap out0_12 = shapeCast S3x6x640x256 (k0_pay15 (xQ X)) shapeCasts_S180x64x256_S3x6x640x256 := by
    refine (View.canon_unit_zero off4 _ _).trans ?_
    exact congrArg (fun x => shapeCast S3x6x640x256 x shapeCasts_S180x64x256_S3x6x640x256) (p87 (X := X))
  rw [e, codes_at _ b u s d (at180 b u (ch s)) rfl, pay15_val (xQ X) (fun p => (csOf D p).Q) (qx h)]
  unfold csOf; rw [pb_at, pu_at, pn_at]

theorem R13_val (b : Fin 3) (u : Fin 6) (n : Fin 10) : X.ap out0_13 (ix3 b u n) = (sOf (D.chunk b u n).Q : EReal) := by
  have e : X.ap out0_13 = shapeCast S3x6x10 (k0_pay16 (xQ X)) shapeCasts_S180x1x1_S3x6x10 := by
    refine (View.canon_unit_zero off3 _ _).trans ?_
    exact congrArg (fun x => shapeCast S3x6x10 x shapeCasts_S180x1x1_S3x6x10) (p88 (X := X))
  rw [e, scales_at _ b u n (at180 b u n) rfl, pay16_val (xQ X) (fun p => (csOf D p).Q) (qx h)]
  unfold csOf; rw [pb_at, pu_at, pn_at]
end vals
end Cert.Ref
-- ==== Proof.RefG.lean ====
/- The reference's run: its body's arrays are its arguments', and its seven results are what the body leaves. -/
module

public import proofs.«01_k».proof.Proof.RefF
public import proofs.«01_k».proof.Proof.Gen.ReferenceIdeal.Value
public import Idealize.ShloMosaic.Lib.Pipeline.ValueKit

@[expose] public section

set_option maxRecDepth 16384

noncomputable section

namespace Cert.Ref

open Idealize.ShloMosaic Idealize.ShloMosaic.TcCoe Cert.ReferenceIdeal Cert.ReferenceIdeal.Gen
open Cert.Body (Data Is)

variable (m : (ℓ : Loc nD τ sig) → Buf (Elt Ideal) ℓ) (c : Dev nD)

theorem idx : ∀ t : Fin cfg0.N, win0_0.index t = ![0, 0, 0, 0] ∧ win0_1.index t = ![0, 0, 0, 0] ∧ win0_2.index t = ![0, 0, 0, 0]
    ∧ win0_3.index t = ![0, 0, 0] ∧ win0_4.index t = ![0, 0, 0] ∧ win0_5.index t = ![0, 0, 0, 0] ∧ win0_6.index t = ![0, 0, 0] := by decide +kernel

theorem V0 (b : Fin 3) (u : Fin 6) (s : Fin 640) (d : Fin 256) : V m c main_v0 (ix4 b u s d) = m ((c : Thread nD τ).loc main_arg0) (ix4 b s u d) := by
  entry_read; pointwise
theorem V1 (b : Fin 3) (u : Fin 6) (s : Fin 640) (d : Fin 256) : V m c main_v1 (ix4 b u s d) = m ((c : Thread nD τ).loc main_arg1) (ix4 b s u d) := by
  entry_read; pointwise
theorem V2 (b : Fin 3) (u : Fin 6) (s : Fin 640) (d : Fin 512) : V m c main_v2 (ix4 b u s d) = m ((c : Thread nD τ).loc main_arg2) (ix4 b s u d) := by
  entry_read; pointwise
theorem V3 (b : Fin 3) (u : Fin 6) (s : Fin 640) : V m c main_v3 (ix3 b u s) = m ((c : Thread nD τ).loc main_arg3) (ix3 b s u) := by
  entry_read; pointwise
theorem V4 (b : Fin 3) (u : Fin 6) (s : Fin 640) : V m c main_v4 (ix3 b u s) = m ((c : Thread nD τ).loc main_arg4) (ix3 b s u) := by
  entry_read; pointwise

theorem blk0 (t : Fin cfg0.N) (b : Fin 3) (u : Fin 6) (s : Fin 640) (d : Fin 256) : iblk m c 0 t (ix4 b u s d) = V m c main_v0 (ix4 b u s d) := by
  blk_ext [iblk, idx t]
theorem blk1 (t : Fin cfg0.N) (b : Fin 3) (u : Fin 6) (s : Fin 640) (d : Fin 256) : iblk m c 1 t (ix4 b u s d) = V m c main_v1 (ix4 b u s d) := by
  blk_ext [iblk, idx t]
theorem blk2 (t : Fin cfg0.N) (b : Fin 3) (u : Fin 6) (s : Fin 640) (d : Fin 512) : iblk m c 2 t (ix4 b u s d) = V m c main_v2 (ix4 b u s d) := by
  blk_ext [iblk, idx t]
theorem blk3 (t : Fin cfg0.N) (b : Fin 3) (u : Fin 6) (s : Fin 640) : iblk m c 3 t (ix3 b u s) = V m c main_v3 (ix3 b u s) := by
  blk_ext [iblk, idx t]
theorem blk4 (t : Fin cfg0.N) (b : Fin 3) (u : Fin 6) (s : Fin 640) : iblk m c 4 t (ix3 b u s) = V m c main_v4 (ix3 b u s) := by
  blk_ext [iblk, idx t]
theorem blk5 (t : Fin cfg0.N) (b : Fin 3) (u : Fin 6) (d : Fin 256) (e : Fin 512) : iblk m c 5 t (ix4 b u d e) = V m c main_arg5 (ix4 b u d e) := by
  blk_ext [iblk, idx t]
theorem blk6 (t : Fin cfg0.N) (b : Fin 3) (u : Fin 6) (e : Fin 512) : iblk m c 6 t (ix3 b u e) = V m c main_arg6 (ix3 b u e) := by
  blk_ext [iblk, idx t]

/-- The arrays the body reads. -/
def xOf : Args Ideal :=
  ⟨iblk m c 0 t0_0, iblk m c 1 t0_0, iblk m c 2 t0_0, iblk m c 3 t0_0, iblk m c 4 t0_0, iblk m c 5 t0_0, iblk m c 6 t0_0⟩

theorem arr7 : (dats m 0 c).arrAt 7 cfg0.N = (xOf m c).ap out0_7 := by
  refine (dats m 0 c).arrAt_eq_of_after_last 7 t0_0 (by decide +kernel) _ fun j => ?_
  blk_simp
  rw [after0_7]; rfl
theorem arr8 : (dats m 0 c).arrAt 8 cfg0.N = (xOf m c).ap out0_8 := by
  refine (dats m 0 c).arrAt_eq_of_after_last 8 t0_0 (by decide +kernel) _ fun j => ?_
  blk_simp
  rw [after0_8]; rfl
theorem arr9 : (dats m 0 c).arrAt 9 cfg0.N = (xOf m c).ap out0_9 := by
  refine (dats m 0 c).arrAt_eq_of_after_last 9 t0_0 (by decide +kernel) _ fun j => ?_
  blk_simp
  rw [after0_9]; rfl
theorem arr10 : (dats m 0 c).arrAt 10 cfg0.N = (xOf m c).ap out0_10 := by
  refine (dats m 0 c).arrAt_eq_of_after_last 10 t0_0 (by decide +kernel) _ fun j => ?_
  blk_simp
  rw [after0_10]; rfl
theorem arr11 : (dats m 0 c).arrAt 11 cfg0.N = (xOf m c).ap out0_11 := by
  refine (dats m 0 c).arrAt_eq_of_after_last 11 t0_0 (by decide +kernel) _ fun j => ?_
  blk_simp
  rw [after0_11]; rfl
theorem arr12 : (dats m 0 c).arrAt 12 cfg0.N = (xOf m c).ap out0_12 := by
  refine (dats m 0 c).arrAt_eq_of_after_last 12 t0_0 (by decide +kernel) _ fun j => ?_
  blk_simp
  rw [after0_12]; rfl
theorem arr13 : (dats m 0 c).arrAt 13 cfg0.N = (xOf m c).ap out0_13 := by
  refine (dats m 0 c).arrAt_eq_of_after_last 13 t0_0 (by decide +kernel) _ fun j => ?_
  blk_simp
  rw [after0_13]; rfl

theorem x0_apply (b : Fin 3) (u : Fin 6) (s : Fin 640) (d : Fin 256) : (xOf m c).x0 (ix4 b u s d) = m ((c : Thread nD τ).loc main_arg0) (ix4 b s u d) :=
  (blk0 m c t0_0 b u s d).trans (V0 m c b u s d)
theorem x1_apply (b : Fin 3) (u : Fin 6) (s : Fin 640) (d : Fin 256) : (xOf m c).x1 (ix4 b u s d) = m ((c : Thread nD τ).loc main_arg1) (ix4 b s u d) :=
  (blk1 m c t0_0 b u s d).trans (V1 m c b u s d)
theorem x2_apply (b : Fin 3) (u : Fin 6) (s : Fin 640) (d : Fin 512) : (xOf m c).x2 (ix4 b u s d) = m ((c : Thread nD τ).loc main_arg2) (ix4 b s u d) :=
  (blk2 m c t0_0 b u s d).trans (V2 m c b u s d)
theorem x3_apply (b : Fin 3) (u : Fin 6) (s : Fin 640) : (xOf m c).x3 (ix3 b u s) = m ((c : Thread nD τ).loc main_arg3) (ix3 b s u) :=
  (blk3 m c t0_0 b u s).trans (V3 m c b u s)
theorem x4_apply (b : Fin 3) (u : Fin 6) (s : Fin 640) : (xOf m c).x4 (ix3 b u s) = m ((c : Thread nD τ).loc main_arg4) (ix3 b s u) :=
  (blk4 m c t0_0 b u s).trans (V4 m c b u s)
theorem x5_apply (b : Fin 3) (u : Fin 6) (d : Fin 256) (e : Fin 512) : (xOf m c).x5 (ix4 b u d e) = m ((c : Thread nD τ).loc main_arg5) (ix4 b u d e) :=
  (blk5 m c t0_0 b u d e).trans (congrFun (V_main_arg5 m c) _)
theorem x6_apply (b : Fin 3) (u : Fin 6) (e : Fin 512) : (xOf m c).x6 (ix3 b u e) = m ((c : Thread nD τ).loc main_arg6) (ix3 b u e) :=
  (blk6 m c t0_0 b u e).trans (congrFun (V_main_arg6 m c) _)

section run
variable {m c} {D : Data} (hI : Is D (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)))
include hI

/-- They hold the problem's data. -/
theorem aIs : AIs D (xOf m c) := by
  refine ⟨fun b u s d => ?_, fun b u s d => ?_, fun b u s d => ?_, fun b u s => ?_, fun b u s => ?_, fun b u d e => ?_⟩
  · rw [x0_apply]; exact hI.q b s u d
  · rw [x1_apply]; exact hI.k b s u d
  · rw [x2_apply]; exact hI.v b s u d
  · rw [x3_apply]; exact hI.g b s u
  · rw [x4_apply]; exact hI.b b s u
  · rw [x5_apply, x6_apply]; exact hI.S0 b u d e
end run
end Cert.Ref
-- ==== Proof.Main.lean ====
/- The kernel and the reference leave equal results from arguments the precondition admits. -/
module

public import proofs.«01_k».proof.Proof.Finite
public import proofs.«01_k».proof.Proof.RefG

@[expose] public section

set_option maxRecDepth 16384

noncomputable section

namespace Cert.Main

open Idealize.ShloMosaic Idealize.ShloMosaic.TcCoe
open Cert.Body (Data Is)
open Cert.Ref (xOf)

theorem ext4 {n0 n1 n2 n3 : ℕ} (f g : (⟨4, ![n0, n1, n2, n3]⟩ : Shape).Idx → EReal) (h : ∀ a b c d, f (ix4 a b c d) = g (ix4 a b c d)) : f = g := by
  funext i
  have e : i = ix4 (i 0) (i 1) (i 2) (i 3) := by funext a; fin_cases a <;> rfl
  rw [e]; exact h _ _ _ _

theorem ext3 {n0 n1 n2 : ℕ} (f g : (⟨3, ![n0, n1, n2]⟩ : Shape).Idx → EReal) (h : ∀ a b c, f (ix3 a b c) = g (ix3 a b c)) : f = g := by
  funext i
  have e : i = ix3 (i 0) (i 1) (i 2) := by funext a; fin_cases a <;> rfl
  rw [e]; exact h _ _ _

section eqs
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD} {D : Data}
  (hK : Is D (m ((c : Thread Cert.KernelIdeal.nD Cert.KernelIdeal.τ).loc Cert.KernelIdeal.main_arg0)) (m ((c : Thread Cert.KernelIdeal.nD Cert.KernelIdeal.τ).loc Cert.KernelIdeal.main_arg1))
    (m ((c : Thread Cert.KernelIdeal.nD Cert.KernelIdeal.τ).loc Cert.KernelIdeal.main_arg2)) (m ((c : Thread Cert.KernelIdeal.nD Cert.KernelIdeal.τ).loc Cert.KernelIdeal.main_arg3))
    (m ((c : Thread Cert.KernelIdeal.nD Cert.KernelIdeal.τ).loc Cert.KernelIdeal.main_arg4)) (m ((c : Thread Cert.KernelIdeal.nD Cert.KernelIdeal.τ).loc Cert.KernelIdeal.main_arg5))
    (m ((c : Thread Cert.KernelIdeal.nD Cert.KernelIdeal.τ).loc Cert.KernelIdeal.main_arg6)))
  (hR : Cert.Ref.AIs D (xOf m' c))
include hK hR

theorem eq7 : (xOf m' c).ap Cert.ReferenceIdeal.Gen.out0_7 = Cert.KernelIdeal.Value.G7 m c :=
  ext4 _ _ fun b u s e => (congrFun (Cert.Ref.R7_val hR) _).trans (Cert.Body.G7_val hK b u s e).symm
theorem eq8 : (xOf m' c).ap Cert.ReferenceIdeal.Gen.out0_8 = Cert.KernelIdeal.Value.G8 m c :=
  ext4 _ _ fun b u s e => (Cert.Ref.R8_val hR b u s e).trans (Cert.Body.G8_val hK b u s e).symm
theorem eq9 : (xOf m' c).ap Cert.ReferenceIdeal.Gen.out0_9 = Cert.KernelIdeal.Value.G9 m c :=
  ext3 _ _ fun b u e => (Cert.Ref.R9_val hR b u e).trans (Cert.Body.G9_val hK b u e).symm
theorem eq10 : (xOf m' c).ap Cert.ReferenceIdeal.Gen.out0_10 = Cert.KernelIdeal.Value.G10 m c :=
  ext4 _ _ fun b u s e => (Cert.Ref.R10_val hR b u s e).trans (Cert.Body.G10_val hK b u s e).symm
theorem eq11 : (xOf m' c).ap Cert.ReferenceIdeal.Gen.out0_11 = Cert.KernelIdeal.Value.G11 m c :=
  ext3 _ _ fun b u e => (Cert.Ref.R11_val hR b u e).trans (Cert.Body.G11_val hK b u e).symm
theorem eq12 : (xOf m' c).ap Cert.ReferenceIdeal.Gen.out0_12 = Cert.KernelIdeal.Value.G12 m c :=
  ext4 _ _ fun b u s e => (Cert.Ref.R12_val hR b u s e).trans (Cert.Body.G12_val hK b u s e).symm
theorem eq13 : (xOf m' c).ap Cert.ReferenceIdeal.Gen.out0_13 = Cert.KernelIdeal.Value.G13 m c :=
  ext3 _ _ fun b u e => (Cert.Ref.R13_val hR b u e).trans (Cert.Body.G13_val hK b u e).symm
end eqs

/-- Equal results, unchanged arguments. -/
theorem algebraic : Cert.algebraic_KernelIdeal_ReferenceIdeal_pre_finite := by
  intro m g m' g' hpre harg
  refine ⟨fun c => Cert.KernelIdeal.Value.G7 m c, fun c => Cert.KernelIdeal.Value.G8 m c, fun c => Cert.KernelIdeal.Value.G9 m c,
    fun c => Cert.KernelIdeal.Value.G10 m c, fun c => Cert.KernelIdeal.Value.G11 m c, fun c => Cert.KernelIdeal.Value.G12 m c,
    fun c => Cert.KernelIdeal.Value.G13 m c, Cert.KernelIdeal.Value.run m g, ?_⟩
  refine (θ_run Cert.ReferenceIdeal.defs _ _).mono (fun r h c => ?_) (Cert.ReferenceIdeal.Value.run_blocks m' g')
  obtain ⟨D, hK⟩ := Cert.Body.is_of_pre _ _ _ _ _ _ _ (hpre c)
  have hA := hK
  obtain ⟨a0, a1, a2, a3, a4, a5, a6⟩ := harg c
  rw [← a0, ← a1, ← a2, ← a3, ← a4, ← a5, ← a6] at hA
  have hR := Cert.Ref.aIs (m := m') (c := c) hA
  obtain ⟨r7, r8, r9, r10, r11, r12, r13, k0, k1, k2, k3, k4, k5, k6⟩ := h c
  exact ⟨r7.trans ((Cert.Ref.arr7 m' c).trans (eq7 hK hR)), r8.trans ((Cert.Ref.arr8 m' c).trans (eq8 hK hR)),
    r9.trans ((Cert.Ref.arr9 m' c).trans (eq9 hK hR)), r10.trans ((Cert.Ref.arr10 m' c).trans (eq10 hK hR)),
    r11.trans ((Cert.Ref.arr11 m' c).trans (eq11 hK hR)), r12.trans ((Cert.Ref.arr12 m' c).trans (eq12 hK hR)),
    r13.trans ((Cert.Ref.arr13 m' c).trans (eq13 hK hR)), k0, k1, k2, k3, k4, k5, k6⟩
end Cert.Main
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Gen.Pre_finite
public import proofs.«01_k».proof.Proof.Main

@[expose] public section

/-- The three programs run and keep their arguments, the kernel's idealization changes one named constant, and over the
    extended reals the kernel's seven results are the reference's. -/
theorem Cert.Proof.claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g,
    Idealize.ShloMosaic.IdealRules.named_const.statement Cert.KernelIdeal.κ "mask" .f32 0xF149F2CA#32 ⊥ rfl, Cert.Main.algebraic⟩
